-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x512x512 : Shape := ⟨4, ![1, 1, 512, 512]⟩
abbrev S512x512 : Shape := ⟨2, ![512, 512]⟩
abbrev S512x16x1 : Shape := ⟨3, ![512, 16, 1]⟩
abbrev S1x512x512 : Shape := ⟨3, ![1, 512, 512]⟩
abbrev S1 : Shape := ⟨1, ![1]⟩
abbrev S1x1x1 : Shape := ⟨3, ![1, 1, 1]⟩
abbrev S512x16 : Shape := ⟨2, ![512, 16]⟩
abbrev S512x1 : Shape := ⟨2, ![512, 1]⟩
abbrev S512x15 : Shape := ⟨2, ![512, 15]⟩
abbrev S1x16 : Shape := ⟨2, ![1, 16]⟩
abbrev S511x16 : Shape := ⟨2, ![511, 16]⟩
abbrev S16x512 : Shape := ⟨2, ![16, 512]⟩
abbrev S16x1 : Shape := ⟨2, ![16, 1]⟩
abbrev S1x16x1 : Shape := ⟨3, ![1, 16, 1]⟩
abbrev S1x1 : Shape := ⟨2, ![1, 1]⟩
abbrev S15x1 : Shape := ⟨2, ![15, 1]⟩
abbrev S2x1 : Shape := ⟨2, ![2, 1]⟩
abbrev S14x1 : Shape := ⟨2, ![14, 1]⟩
abbrev S4x1 : Shape := ⟨2, ![4, 1]⟩
abbrev S12x1 : Shape := ⟨2, ![12, 1]⟩
abbrev S8x1 : Shape := ⟨2, ![8, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x1x512x512, .f32⟩
  | .hbm, ⟨1, _⟩ => ⟨S512x512, .f32⟩
  | .hbm, ⟨2, _⟩ => ⟨S512x512, .f32⟩
  | .hbm, ⟨3, _⟩ => ⟨S1x1x512x512, .f32⟩
  | .local _ .vmem, ⟨0, _⟩ => ⟨S512x512, .f32⟩
  | .local _ .vmem, ⟨1, _⟩ => ⟨S512x512, .f32⟩
  | .local _ .vmem, ⟨2, _⟩ => ⟨S512x16x1, .i32⟩
  | .local _ .vmem, ⟨3, _⟩ => ⟨S512x16x1, .i32⟩
  | .local _ .vmem, ⟨4, _⟩ => ⟨S512x16x1, .i32⟩
  | _, _ => ⟨S1x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_2597 : BitVec 32 := 0#32
  let c512_i32 : BitVec 32 := 512#32
  let v4236 : BitVec 32 := Scalar.addi c0_i32_2597 c512_i32
  let c1_i32_2598 : BitVec 32 := 1#32
  ⟨c0_i32_2597, v4236, c1_i32_2598⟩
def k0_off1 (k0_t1 : Fin k0_t1_loop.trips) : Fin 3 → Nat :=
  let c0_i32_2597 : BitVec 32 := 0#32
  let c1_i32_2598 : BitVec 32 := 1#32
  let arg5 : BitVec 32 := Scf.iv c0_i32_2597 c1_i32_2598 k0_t1
  let v5408 : Index := Scalar.indexCast arg5
  let c0_4184 : Index := 0#32
  let c0_4185 : Index := 0#32
  ![v5408.toNat, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x1x512x512 : Shape := ⟨4, ![1, 1, 512, 512]⟩
abbrev S512x512 : Shape := ⟨2, ![512, 512]⟩
abbrev S_ : Shape := ⟨0, ![]⟩
abbrev S3x3 : Shape := ⟨2, ![3, 3]⟩
abbrev S1x1 : Shape := ⟨2, ![1, 1]⟩
abbrev S1 : Shape := ⟨1, ![1]⟩
abbrev S2 : Shape := ⟨1, ![2]⟩

abbrev nBuf : Space → Nat
  | .hbm => 149
  | .vmem => 0
  | .smem => 0
  | _ => 0

abbrev hbmTy0_0 (i : Nat) : BufTy := match i % 128 with
  | 0 => ⟨S1x1x512x512, .f32⟩
  | 1 => ⟨S512x512, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S512x512, .f32⟩
  | 9 => ⟨S512x512, .i1⟩
  | 10 => ⟨S512x512, .f32⟩
  | 11 => ⟨S512x512, .i1⟩
  | 12 => ⟨S512x512, .f32⟩
  | 13 => ⟨S512x512, .i1⟩
  | 14 => ⟨S512x512, .f32⟩
  | 15 => ⟨S512x512, .i1⟩
  | 16 => ⟨S512x512, .i1⟩
  | 17 => ⟨S_, .f32⟩
  | 18 => ⟨S_, .f32⟩
  | 19 => ⟨S512x512, .f32⟩
  | 20 => ⟨S512x512, .f32⟩
  | 21 => ⟨S_, .f32⟩
  | 22 => ⟨S_, .f32⟩
  | 23 => ⟨S512x512, .f32⟩
  | 24 => ⟨S512x512, .f32⟩
  | 25 => ⟨S_, .f32⟩
  | 26 => ⟨S_, .f32⟩
  | 27 => ⟨S512x512, .f32⟩
  | 28 => ⟨S512x512, .f32⟩
  | 29 => ⟨S_, .i32⟩
  | 30 => ⟨S_, .i32⟩
  | 31 => ⟨S_, .i32⟩
  | 32 => ⟨S_, .i32⟩
  | 33 => ⟨S512x512, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i1⟩
  | 46 => ⟨S_, .i1⟩
  | 47 => ⟨S_, .i1⟩
  | 48 => ⟨S_, .i1⟩
  | 49 => ⟨S_, .i1⟩
  | 50 => ⟨S_, .i1⟩
  | 51 => ⟨S_, .i1⟩
  | 52 => ⟨S_, .i1⟩
  | 53 => ⟨S_, .i1⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i1⟩
  | 70 => ⟨S_, .i32⟩
  | 71 => ⟨S_, .i1⟩
  | 72 => ⟨S_, .i1⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S3x3, .f32⟩
  | 95 => ⟨S_, .f32⟩
  | 96 => ⟨S3x3, .f32⟩
  | 97 => ⟨S3x3, .i1⟩
  | 98 => ⟨S1x1, .i1⟩
  | 99 => ⟨S_, .i1⟩
  | 100 => ⟨S1x1, .i1⟩
  | 101 => ⟨S_, .i1⟩
  | 102 => ⟨S_, .i1⟩
  | 103 => ⟨S1x1, .i1⟩
  | 104 => ⟨S_, .i1⟩
  | 105 => ⟨S_, .i1⟩
  | 106 => ⟨S1x1, .i1⟩
  | 107 => ⟨S_, .i1⟩
  | 108 => ⟨S_, .i1⟩
  | 109 => ⟨S1x1, .i1⟩
  | 110 => ⟨S_, .i1⟩
  | 111 => ⟨S_, .i1⟩
  | 112 => ⟨S1x1, .i1⟩
  | 113 => ⟨S_, .i1⟩
  | 114 => ⟨S_, .i1⟩
  | 115 => ⟨S1x1, .i1⟩
  | 116 => ⟨S_, .i1⟩
  | 117 => ⟨S_, .i1⟩
  | 118 => ⟨S1x1, .i1⟩
  | 119 => ⟨S_, .i1⟩
  | 120 => ⟨S_, .i1⟩
  | 121 => ⟨S1x1, .f32⟩
  | 122 => ⟨S_, .f32⟩
  | 123 => ⟨S_, .f32⟩
  | 124 => ⟨S_, .i1⟩
  | 125 => ⟨S_, .f32⟩
  | 126 => ⟨S_, .f32⟩
  | 127 => ⟨S_, .f32⟩
  | _ => ⟨S1x1x512x512, .f32⟩

abbrev hbmTy0_1 (i : Nat) : BufTy := match i % 128 with
  | 0 => ⟨S_, .f32⟩
  | 1 => ⟨S_, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S1, .i32⟩
  | 15 => ⟨S1, .i32⟩
  | 16 => ⟨S2, .i32⟩
  | 17 => ⟨S512x512, .f32⟩
  | 18 => ⟨S_, .i32⟩
  | 19 => ⟨S_, .i32⟩
  | 20 => ⟨S1x1x512x512, .f32⟩
  | _ => ⟨S1x1x512x512, .f32⟩

abbrev hbmTy (i : Nat) : BufTy := match i / 128 with
  | 0 => hbmTy0_0 i
  | 1 => hbmTy0_1 i
  | _ => ⟨S1x1x512x512, .f32⟩

abbrev bufTy : (tb : Table) → Fin (tcTables nBuf tb) → BufTy
  | .hbm, ⟨i, _⟩ => hbmTy i
  | _, _ => ⟨S1x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v14 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_v15 : Ref sig .tc := ⟨.hbm, 28, rfl⟩
abbrev main_c : Ref sig .tc := ⟨.hbm, 29, rfl⟩
abbrev main_c_5 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_while0c_c_8 : Ref sig .tc := ⟨.hbm, 34, rfl⟩
abbrev main_while0c_v18 : Ref sig .tc := ⟨.hbm, 35, rfl⟩
abbrev main_while0b_c_8 : Ref sig .tc := ⟨.hbm, 36, rfl⟩
abbrev main_while0b_v18 : Ref sig .tc := ⟨.hbm, 37, rfl⟩
abbrev main_while0b_c_9 : Ref sig .tc := ⟨.hbm, 38, rfl⟩
abbrev main_while0b_call3_v0 : Ref sig .tc := ⟨.hbm, 39, rfl⟩
abbrev main_while0b_call3_v1 : Ref sig .tc := ⟨.hbm, 40, rfl⟩
abbrev main_while0b_call3_v2 : Ref sig .tc := ⟨.hbm, 41, rfl⟩
abbrev main_while0b_call3_v3 : Ref sig .tc := ⟨.hbm, 42, rfl⟩
abbrev main_while0b_call3_v4 : Ref sig .tc := ⟨.hbm, 43, rfl⟩
abbrev main_while0b_call3_c : Ref sig .tc := ⟨.hbm, 44, rfl⟩
abbrev main_while0b_call3_v5 : Ref sig .tc := ⟨.hbm, 45, rfl⟩
abbrev main_while0b_call3_c_0 : Ref sig .tc := ⟨.hbm, 46, rfl⟩
abbrev main_while0b_call3_v6 : Ref sig .tc := ⟨.hbm, 47, rfl⟩
abbrev main_while0b_call3_v7 : Ref sig .tc := ⟨.hbm, 48, rfl⟩
abbrev main_while0b_call3_v8 : Ref sig .tc := ⟨.hbm, 49, rfl⟩
abbrev main_while0b_call3_c_1 : Ref sig .tc := ⟨.hbm, 50, rfl⟩
abbrev main_while0b_call3_v9 : Ref sig .tc := ⟨.hbm, 51, rfl⟩
abbrev main_while0b_call3_v10 : Ref sig .tc := ⟨.hbm, 52, rfl⟩
abbrev main_while0b_call3_v11 : Ref sig .tc := ⟨.hbm, 53, rfl⟩
abbrev main_while0b_call3_v12 : Ref sig .tc := ⟨.hbm, 54, rfl⟩
abbrev main_while0b_call3_c_2 : Ref sig .tc := ⟨.hbm, 55, rfl⟩
abbrev main_while0b_call3_v13 : Ref sig .tc := ⟨.hbm, 56, rfl⟩
abbrev main_while0b_v19 : Ref sig .tc := ⟨.hbm, 57, rfl⟩
abbrev main_while0b_c_10 : Ref sig .tc := ⟨.hbm, 58, rfl⟩
abbrev main_while0b_v20 : Ref sig .tc := ⟨.hbm, 59, rfl⟩
abbrev main_while0b_c_11 : Ref sig .tc := ⟨.hbm, 60, rfl⟩
abbrev main_while0b_call4_c : Ref sig .tc := ⟨.hbm, 61, rfl⟩
abbrev main_while0b_call4_v0 : Ref sig .tc := ⟨.hbm, 62, rfl⟩
abbrev main_while0b_call4_c_0 : Ref sig .tc := ⟨.hbm, 63, rfl⟩
abbrev main_while0b_call4_v1 : Ref sig .tc := ⟨.hbm, 64, rfl⟩
abbrev main_while0b_call4_v2 : Ref sig .tc := ⟨.hbm, 65, rfl⟩
abbrev main_while0b_call4_c_1 : Ref sig .tc := ⟨.hbm, 66, rfl⟩
abbrev main_while0b_call4_v3 : Ref sig .tc := ⟨.hbm, 67, rfl⟩
abbrev main_while0b_call4_c_2 : Ref sig .tc := ⟨.hbm, 68, rfl⟩
abbrev main_while0b_call4_v4 : Ref sig .tc := ⟨.hbm, 69, rfl⟩
abbrev main_while0b_call4_c_3 : Ref sig .tc := ⟨.hbm, 70, rfl⟩
abbrev main_while0b_call4_v5 : Ref sig .tc := ⟨.hbm, 71, rfl⟩
abbrev main_while0b_call4_v6 : Ref sig .tc := ⟨.hbm, 72, rfl⟩
abbrev main_while0b_call4_v7 : Ref sig .tc := ⟨.hbm, 73, rfl⟩
abbrev main_while0b_call4_v8 : Ref sig .tc := ⟨.hbm, 74, rfl⟩
abbrev main_while0b_v21 : Ref sig .tc := ⟨.hbm, 75, rfl⟩
abbrev main_while0b_c_12 : Ref sig .tc := ⟨.hbm, 76, rfl⟩
abbrev main_while0b_v22 : Ref sig .tc := ⟨.hbm, 77, rfl⟩
abbrev main_while0b_c_13 : Ref sig .tc := ⟨.hbm, 78, rfl⟩
abbrev main_while0b_v23 : Ref sig .tc := ⟨.hbm, 79, rfl⟩
abbrev main_while0b_c_14 : Ref sig .tc := ⟨.hbm, 80, rfl⟩
abbrev main_while0b_v24 : Ref sig .tc := ⟨.hbm, 81, rfl⟩
abbrev main_while0b_c_15 : Ref sig .tc := ⟨.hbm, 82, rfl⟩
abbrev main_while0b_v25 : Ref sig .tc := ⟨.hbm, 83, rfl⟩
abbrev main_while0b_v26 : Ref sig .tc := ⟨.hbm, 84, rfl⟩
abbrev main_while0b_c_16 : Ref sig .tc := ⟨.hbm, 85, rfl⟩
abbrev main_while0b_v27 : Ref sig .tc := ⟨.hbm, 86, rfl⟩
abbrev main_while0b_v28 : Ref sig .tc := ⟨.hbm, 87, rfl⟩
abbrev main_while0b_c_17 : Ref sig .tc := ⟨.hbm, 88, rfl⟩
abbrev main_while0b_v29 : Ref sig .tc := ⟨.hbm, 89, rfl⟩
abbrev main_while0b_v30 : Ref sig .tc := ⟨.hbm, 90, rfl⟩
abbrev main_while0b_c_18 : Ref sig .tc := ⟨.hbm, 91, rfl⟩
abbrev main_while0b_v31 : Ref sig .tc := ⟨.hbm, 92, rfl⟩
abbrev main_while0b_v32 : Ref sig .tc := ⟨.hbm, 93, rfl⟩
abbrev main_while0b_v33 : Ref sig .tc := ⟨.hbm, 94, rfl⟩
abbrev main_while0b_cst_19 : Ref sig .tc := ⟨.hbm, 95, rfl⟩
abbrev main_while0b_v34 : Ref sig .tc := ⟨.hbm, 96, rfl⟩
abbrev main_while0b_v35 : Ref sig .tc := ⟨.hbm, 97, rfl⟩
abbrev main_while0b_v36 : Ref sig .tc := ⟨.hbm, 98, rfl⟩
abbrev main_while0b_v37 : Ref sig .tc := ⟨.hbm, 99, rfl⟩
abbrev main_while0b_v38 : Ref sig .tc := ⟨.hbm, 100, rfl⟩
abbrev main_while0b_v39 : Ref sig .tc := ⟨.hbm, 101, rfl⟩
abbrev main_while0b_v40 : Ref sig .tc := ⟨.hbm, 102, rfl⟩
abbrev main_while0b_v41 : Ref sig .tc := ⟨.hbm, 103, rfl⟩
abbrev main_while0b_v42 : Ref sig .tc := ⟨.hbm, 104, rfl⟩
abbrev main_while0b_v43 : Ref sig .tc := ⟨.hbm, 105, rfl⟩
abbrev main_while0b_v44 : Ref sig .tc := ⟨.hbm, 106, rfl⟩
abbrev main_while0b_v45 : Ref sig .tc := ⟨.hbm, 107, rfl⟩
abbrev main_while0b_v46 : Ref sig .tc := ⟨.hbm, 108, rfl⟩
abbrev main_while0b_v47 : Ref sig .tc := ⟨.hbm, 109, rfl⟩
abbrev main_while0b_v48 : Ref sig .tc := ⟨.hbm, 110, rfl⟩
abbrev main_while0b_v49 : Ref sig .tc := ⟨.hbm, 111, rfl⟩
abbrev main_while0b_v50 : Ref sig .tc := ⟨.hbm, 112, rfl⟩
abbrev main_while0b_v51 : Ref sig .tc := ⟨.hbm, 113, rfl⟩
abbrev main_while0b_v52 : Ref sig .tc := ⟨.hbm, 114, rfl⟩
abbrev main_while0b_v53 : Ref sig .tc := ⟨.hbm, 115, rfl⟩
abbrev main_while0b_v54 : Ref sig .tc := ⟨.hbm, 116, rfl⟩
abbrev main_while0b_v55 : Ref sig .tc := ⟨.hbm, 117, rfl⟩
abbrev main_while0b_v56 : Ref sig .tc := ⟨.hbm, 118, rfl⟩
abbrev main_while0b_v57 : Ref sig .tc := ⟨.hbm, 119, rfl⟩
abbrev main_while0b_v58 : Ref sig .tc := ⟨.hbm, 120, rfl⟩
abbrev main_while0b_v59 : Ref sig .tc := ⟨.hbm, 121, rfl⟩
abbrev main_while0b_v60 : Ref sig .tc := ⟨.hbm, 122, rfl⟩
abbrev main_while0b_cst_20 : Ref sig .tc := ⟨.hbm, 123, rfl⟩
abbrev main_while0b_v61 : Ref sig .tc := ⟨.hbm, 124, rfl⟩
abbrev main_while0b_cst_21 : Ref sig .tc := ⟨.hbm, 125, rfl⟩
abbrev main_while0b_cst_22 : Ref sig .tc := ⟨.hbm, 126, rfl⟩
abbrev main_while0b_v62 : Ref sig .tc := ⟨.hbm, 127, rfl⟩
abbrev main_while0b_call6_v0 : Ref sig .tc := ⟨.hbm, 128, rfl⟩
abbrev main_while0b_v63 : Ref sig .tc := ⟨.hbm, 129, rfl⟩
abbrev main_while0b_c_23 : Ref sig .tc := ⟨.hbm, 130, rfl⟩
abbrev main_while0b_v64 : Ref sig .tc := ⟨.hbm, 131, rfl⟩
abbrev main_while0b_c_24 : Ref sig .tc := ⟨.hbm, 132, rfl⟩
abbrev main_while0b_v65 : Ref sig .tc := ⟨.hbm, 133, rfl⟩
abbrev main_while0b_v66 : Ref sig .tc := ⟨.hbm, 134, rfl⟩
abbrev main_while0b_c_25 : Ref sig .tc := ⟨.hbm, 135, rfl⟩
abbrev main_while0b_v67 : Ref sig .tc := ⟨.hbm, 136, rfl⟩
abbrev main_while0b_c_26 : Ref sig .tc := ⟨.hbm, 137, rfl⟩
abbrev main_while0b_v68 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_c_27 : Ref sig .tc := ⟨.hbm, 146, rfl⟩
abbrev main_while0b_v76 : Ref sig .tc := ⟨.hbm, 147, rfl⟩
abbrev main_v17 : Ref sig .tc := ⟨.hbm, 148, rfl⟩

abbrev nD : Nat := 1
abbrev τ : Topo := Topo.v7x

variable {F : FTy → Type} [FloatOps F]

abbrev main_while0_count : Scf.Loop 32 := ⟨0#32, 260100#32, 1#32⟩
-- ==== Proof.Rows.lean ====
/- The body of the kernel written with recursions over the rows of its three tables, and the fact that this is the
   printed body. -/
module

public import proofs.«01_k».proof.Proof.Gen.KernelIdeal.Skeleton

@[expose] public section

noncomputable section

namespace Cert.KernelIdeal.Hyst

open Cert.KernelIdeal Cert.KernelIdeal.Gen
open Idealize.ShloMosaic Idealize.SL.Sem

variable {F : FTy → Type} [FloatOps F]

/-! ### The values -/

/-- The bit weights of the low half words. -/
def weightLo : FVec F S512x16 .bf16 :=
  k0_pay26 (F := F) (iota .tc S512x16 32 [0] iota_S512x16_d0_w32) (iota .tc S512x16 32 [1] iota_S512x16_d1_w32) 32#32
    k0_pay22 k0_pay23 (Scalar.extui (Scalar.cmpi .sgt 32#32 0#32)) 0#32

/-- Where a column belongs to a high half word. -/
def maskHi : IVec S512x16 1 :=
  k0_pay27 (iota .tc S512x16 32 [0] iota_S512x16_d0_w32) (iota .tc S512x16 32 [1] iota_S512x16_d1_w32) 32#32
    k0_pay22 k0_pay23 (Scalar.extui (Scalar.cmpi .sgt 32#32 0#32)) 0#32

/-- The powers of two of the high half words. -/
def powHi : IVec S512x16 32 := k0_pay28 (iota .tc S512x16 32 [0] iota_S512x16_d0_w32)

/-- The packed rows of weak interior pixels, one column per image row. -/
def weakTab (v0 : Vec F S512x512 .f32) : IVec S16x512 32 :=
  k0_pay32 (k0_pay30 (k0_pay20 v0) weightLo maskHi powHi 0#32)

/-- The packed rows of pixels with a strong neighbour, one column per image row. -/
def nearTab (v0 : Vec F S512x512 .f32) : IVec S16x512 32 :=
  k0_pay33 (k0_pay31 (k0_pay21 v0) weightLo maskHi powHi 0#32)

/-- Column `i` of a table, as one row of a scratch table. -/
def colOf (T : IVec S16x512 32) (i : Nat) (h : S16x512.Slices ![0, i] S16x1) : IVec S1x16x1 32 :=
  shapeCast S1x16x1 (extractStridedSlice S16x1 ![0, i] T h) shapeCasts_S16x1_S1x16x1

/-- One row of the scan: the promoted words of a row from its weak words, its seed words and the promoted words of the
    row above. -/
def rowStep (w d : Vec F S1x16x1 .i32) (p : IVec S16x1 32) : IVec S16x1 32 :=
  k0_pay1195 (k0_pay7 (F := F) w) (k0_pay11 (k0_pay8 (F := F) w) (k0_pay9 (F := F) w) k0_pay10)
    (k0_pay12 p (k0_pay2 (F := F) w) (k0_pay3 (F := F) d))
    (k0_pay13 p (k0_pay2 (F := F) w) (k0_pay3 (F := F) d) (k0_pay4 (F := F) w) (k0_pay5 (F := F) w))
    (k0_pay14 p (k0_pay2 (F := F) w) (k0_pay3 (F := F) d) (k0_pay4 (F := F) w) (k0_pay5 (F := F) w) (k0_pay6 (F := F) w))

/-- A number of columns of words. -/
def Cols : Nat → Type
  | 0 => PUnit
  | n + 1 => IVec S16x1 32 × Cols n

/-- The columns as a list of blocks. -/
def Cols.blocks : (n : Nat) → Cols n → List ((s : Shape) × (s.Idx → BitVec 32))
  | 0, _ => []
  | n + 1, c => ⟨S16x1, c.1⟩ :: Cols.blocks n c.2

/-- Every column of a list of columns has the same shape. -/
theorem Cols.shapes : (n : Nat) → (c : Cols n) → (Cols.blocks n c).map (·.1) = List.replicate n S16x1
  | 0, _ => rfl
  | n + 1, c => congrArg (S16x1 :: ·) (Cols.shapes n c.2)

/-- The 512 columns side by side make the whole table. -/
theorem cols_concat : Shape.Concatenates (List.replicate 512 S16x1) S16x512 1 := by decide +kernel

/-- Any 512 columns fit side by side. -/
theorem Cols.concat (c : Cols 512) : Shape.Concatenates ((Cols.blocks 512 c).map (·.1)) S16x512 1 :=
  (Cols.shapes 512 c).symm ▸ cols_concat

/-- The columns side by side, one row of the image per row. -/
def joined (c : Cols 512) : IVec S512x16 32 :=
  transpose S512x16 [1, 0] (concatenate S16x512 1 (Cols.blocks 512 c) (Cols.concat c)) transposes_S16x512_p1_0_S512x16

/-- The image from the input and the packed promoted rows. -/
def image (v0 : Vec F S512x512 .f32) (P : IVec S512x16 32) : FVec F S512x512 .f32 :=
  k0_pay1 (k0_pay15 v0) (k0_pay16 v0) (k0_pay17 v0) k0_pay18 k0_pay19
    (k0_pay1715 (k0_pay1707 (F := F) P k0_pay1705 1#32 0#32) (k0_pay1708 (F := F) P k0_pay1705 1#32 0#32)
      (k0_pay1709 (F := F) P k0_pay1705 1#32 0#32) (k0_pay1710 (F := F) P k0_pay1705 1#32 0#32)
      (Scalar.select (Scalar.cmpi .eq 32#32 0#32) 1#32 32#32)
      (k0_pay1711 (iota .tc S512x512 32 [1] iota_S512x512_d1_w32))
      (k0_pay1712 (iota .tc S512x512 32 [1] iota_S512x512_d1_w32))
      (k0_pay1713 (iota .tc S512x512 32 [1] iota_S512x512_d1_w32)) k0_pay1714)
    (Scalar.select (Scalar.cmpi .eq 8#32 0#32) 1#32 8#32)
    (k0_pay1716 (iota .tc S512x512 32 [1] iota_S512x512_d1_w32))
    (k0_pay1717 (iota .tc S512x512 32 [1] iota_S512x512_d1_w32))

/-! ### The program -/

/-- A row of a scratch table lies inside the table. -/
theorem rowInb (n : Nat) : ∀ a, (![511 - n, 0, 0] : Fin 3 → Nat) a + S1x16x1.size a ≤ S512x16x1.size a := by
  intro a
  match a with
  | 0 => show 511 - n + 1 ≤ 512; omega
  | 1 => show 0 + 16 ≤ 16; omega
  | 2 => show 0 + 1 ≤ 1; omega

/-- A column of a packed table lies inside the table. -/
theorem colSlices (n : Nat) : S16x512.Slices ![0, 511 - n] S16x1 :=
  ⟨rfl, fun a => match a with
    | 0 => show 0 + 16 ≤ 16 by omega
    | 1 => show 511 - n + 1 ≤ 512 by omega⟩

/-- Row `511 - n` of a scratch table. -/
abbrev rowRect (n : Nat) : Rect S512x16x1 :=
  Rect.unit (s := S512x16x1) ![511 - n, 0, 0] S1x16x1.size (rowInb n)

/-- The last `n` rows of both word tables are written. -/
def storeRows (arg2 : Memref sig .tc .vmem S512x16x1 .i32) (arg3 : Memref sig .tc .vmem S512x16x1 .i32)
    (T U : IVec S16x512 32) : Nat → Prog (TpuEff nD τ sig (Elt F) Λ₀ .tc) PUnit
  | 0 => pure ⟨⟩
  | n + 1 => do
    let _ : Vec F S1x16x1 .i32 ← Prog.lift (.load arg2 (rowRect n).toLoadRect (View.loadsAt_vmem h_S1x16x1))
    Prog.lift (.store arg2 (rowRect n) (colOf T (511 - n) (colSlices n)) Finset.univ (View.stores_vmem_bits_univ h_S1x16x1 rfl) (.inl rfl))
    let _ : Vec F S1x16x1 .i32 ← Prog.lift (.load arg3 (rowRect n).toLoadRect (View.loadsAt_vmem h_S1x16x1))
    Prog.lift (.store arg3 (rowRect n) (colOf U (511 - n) (colSlices n)) Finset.univ (View.stores_vmem_bits_univ h_S1x16x1 rfl) (.inl rfl))
    storeRows arg2 arg3 T U n

/-- The row of the scan at an offset of the tables. -/
def rowOff (arg2 arg3 arg4 : Memref sig .tc .vmem S512x16x1 .i32) (o : Fin 3 → Nat)
    (h : ∀ a, o a + S1x16x1.size a ≤ S512x16x1.size a) (p : IVec S16x1 32) :
    Prog (TpuEff nD τ sig (Elt F) Λ₀ .tc) (IVec S16x1 32) := do
  let w : Vec F S1x16x1 .i32 ← Prog.lift (.load arg2 (Rect.unit (s := S512x16x1) o S1x16x1.size h).toLoadRect (View.loadsAt_vmem h_S1x16x1))
  let d : Vec F S1x16x1 .i32 ← Prog.lift (.load arg3 (Rect.unit (s := S512x16x1) o S1x16x1.size h).toLoadRect (View.loadsAt_vmem h_S1x16x1))
  let _ : Vec F S1x16x1 .i32 ← Prog.lift (.load arg4 (Rect.unit (s := S512x16x1) o S1x16x1.size h).toLoadRect (View.loadsAt_vmem h_S1x16x1))
  Prog.lift (.store arg4 (Rect.unit (s := S512x16x1) o S1x16x1.size h) (shapeCast S1x16x1 (rowStep (F := F) w d p) shapeCasts_S16x1_S1x16x1) Finset.univ (View.stores_vmem_bits_univ h_S1x16x1 rfl) (.inl rfl))
  pure (rowStep (F := F) w d p)

/-- Equal offsets give equal rows of the tables. -/
theorem rowOff_congr (arg2 arg3 arg4 : Memref sig .tc .vmem S512x16x1 .i32) {o o' : Fin 3 → Nat} (e : o = o')
    (h : ∀ a, o a + S1x16x1.size a ≤ S512x16x1.size a) (h' : ∀ a, o' a + S1x16x1.size a ≤ S512x16x1.size a)
    (p : IVec S16x1 32) : rowOff (F := F) arg2 arg3 arg4 o h p = rowOff (F := F) arg2 arg3 arg4 o' h' p := by
  subst e; rfl

/-- One trip of the scan. -/
def rowBody (arg2 arg3 arg4 : Memref sig .tc .vmem S512x16x1 .i32) (k : Fin k0_t1_loop.trips) (p : IVec S16x1 32) :
    Prog (TpuEff nD τ sig (Elt F) Λ₀ .tc) (IVec S16x1 32) :=
  rowOff arg2 arg3 arg4 (k0_off1 k) (k0_off1_inb k) p

/-- The scan's row `511 - n`. -/
def rowAt (arg2 arg3 arg4 : Memref sig .tc .vmem S512x16x1 .i32) (n : Nat) (p : IVec S16x1 32) :
    Prog (TpuEff nD τ sig (Elt F) Λ₀ .tc) (IVec S16x1 32) :=
  rowOff arg2 arg3 arg4 ![511 - n, 0, 0] (rowInb n) p

/-- The last `n` rows are scanned. -/
def scanRows (arg2 arg3 arg4 : Memref sig .tc .vmem S512x16x1 .i32) :
    Nat → IVec S16x1 32 → Prog (TpuEff nD τ sig (Elt F) Λ₀ .tc) (IVec S16x1 32)
  | 0, p => pure p
  | n + 1, p => rowAt arg2 arg3 arg4 n p >>= scanRows arg2 arg3 arg4 n

/-- The row loop makes 512 trips. -/
theorem trips_eq : k0_t1_loop.trips = 512 := by decide +kernel

/-- A trip is the row of its number. -/
theorem rowBody_eq (arg2 arg3 arg4 : Memref sig .tc .vmem S512x16x1 .i32) (n : Nat) (k : Fin k0_t1_loop.trips)
    (e : k.val = 511 - n) (p : IVec S16x1 32) :
    rowBody (F := F) arg2 arg3 arg4 k p = rowAt (F := F) arg2 arg3 arg4 n p := by
  exact rowOff_congr arg2 arg3 arg4 (by rw [k0_off1_eq, e]) _ _ p

/-- The trips from a row on are the rows from that row on. -/
theorem forFrom_eq (arg2 arg3 arg4 : Memref sig .tc .vmem S512x16x1 .i32) (n : Nat) : ∀ (hn : n ≤ 512)
    (p : IVec S16x1 32), Scf.forFrom (rowBody (F := F) arg2 arg3 arg4) ((List.finRange k0_t1_loop.trips).drop (512 - n)) p
      = scanRows (F := F) arg2 arg3 arg4 n p := by
  induction n with
  | zero =>
    intro hn p
    rw [List.drop_of_length_le (by rw [List.length_finRange, trips_eq]), Scf.forFrom_nil]; rfl
  | succ n ih =>
    intro hn p
    have hlt : 512 - (n + 1) < k0_t1_loop.trips := by rw [trips_eq]; omega
    rw [List.drop_eq_getElem_cons (by simpa using hlt), List.getElem_finRange, Fin.cast_mk, Scf.forFrom_cons,
      rowBody_eq arg2 arg3 arg4 n ⟨512 - (n + 1), hlt⟩ (by show 512 - (n + 1) = 511 - n; omega) p,
      show 512 - (n + 1) + 1 = 512 - n by omega]
    show _ = (rowAt (F := F) arg2 arg3 arg4 n p >>= scanRows (F := F) arg2 arg3 arg4 n)
    exact congrArg (rowAt (F := F) arg2 arg3 arg4 n p >>= ·) (funext fun q => ih (by omega) q)

/-- The loop is the rows in order. -/
theorem loop_eq (arg2 arg3 arg4 : Memref sig .tc .vmem S512x16x1 .i32) (p : IVec S16x1 32) :
    Scf.Loop.for k0_t1_loop k0_t1_ok p (rowBody (F := F) arg2 arg3 arg4) = scanRows (F := F) arg2 arg3 arg4 512 p :=
  (Scf.for_eq ..).trans (forFrom_eq arg2 arg3 arg4 512 le_rfl p)

/-- The last `n` rows of the promoted table are read. -/
def loadRows (arg4 : Memref sig .tc .vmem S512x16x1 .i32) :
    (n : Nat) → Prog (TpuEff nD τ sig (Elt F) Λ₀ .tc) (Cols n)
  | 0 => pure ⟨⟩
  | n + 1 => do
    let v : Vec F S1x16x1 .i32 ← Prog.lift (.load arg4 (rowRect n).toLoadRect (View.loadsAt_vmem h_S1x16x1))
    let c ← loadRows arg4 n
    pure (shapeCast S16x1 v shapeCasts_S1x16x1_S16x1, c)

/-- The whole body. -/
def body (arg0 : Memref sig .tc .vmem S512x512 .f32) (harg0 : arg0.IsWhole) (arg1 : Memref sig .tc .vmem S512x512 .f32)
    (harg1 : arg1.IsWhole) (arg2 : Memref sig .tc .vmem S512x16x1 .i32) (harg2 : arg2.IsWhole)
    (arg3 : Memref sig .tc .vmem S512x16x1 .i32) (harg3 : arg3.IsWhole) (arg4 : Memref sig .tc .vmem S512x16x1 .i32)
    (harg4 : arg4.IsWhole) : Prog (TpuEff nD τ sig (Elt F) Λ₀ .tc) PUnit := do
  let v0 : Vec F S512x512 .f32 ← Prog.lift (.load arg0 (Rect.unit (s := S512x512) ![0, 0] S512x512.size inb_S512x512_S512x512_0_0).toLoadRect (View.loadsAt_vmem h_S512x512))
  storeRows arg2 arg3 (weakTab v0) (nearTab v0) 512
  let _ ← scanRows (F := F) arg2 arg3 arg4 512 (broadcast S16x1 0#32)
  let c ← loadRows (F := F) arg4 512
  let _ : Vec F S512x512 .f32 ← Prog.lift (.load arg1 (Rect.unit (s := S512x512) ![0, 0] S512x512.size inb_S512x512_S512x512_0_0).toLoadRect (View.loadsAt_vmem h_S512x512))
  Prog.lift (.store arg1 (Rect.unit (s := S512x512) ![0, 0] S512x512.size inb_S512x512_S512x512_0_0) (image v0 (joined c)) Finset.univ (View.stores_vmem_bits_univ h_S512x512 rfl) (.inl rfl))
  pure ⟨⟩

/-- The part of the printed body around its loop, over what stands in the loop's place. -/
def around (arg2 arg3 arg4 : Memref sig .tc .vmem S512x16x1 .i32) (L : Prog (TpuEff nD τ sig (Elt F) Λ₀ .tc) (IVec S16x1 32))
    (v137 v138 : IVec S16x512 32) (v4215 : IVec S16x1 32) :
    Prog (TpuEff nD τ sig (Elt F) Λ₀ .tc) (Σ' (v4239 : IVec S16x1 32) (v4241 : IVec S16x1 32), IVec S16x1 32) := do
  Prog.lift (.store arg3 (Rect.unit (s := S512x16x1) ![509, 0, 0] S1x16x1.size inb_S512x16x1_S1x16x1_509_0_0) (k0_pay1189 v4215) Finset.univ (View.stores_vmem_bits_univ h_S1x16x1 rfl) (.inl rfl))
  let _ : Vec F S1x16x1 .i32 ← Prog.lift (.load arg2 (rowRect 1).toLoadRect (View.loadsAt_vmem h_S1x16x1))
  Prog.lift (.store arg2 (rowRect 1) (k0_pay1190 v137) Finset.univ (View.stores_vmem_bits_univ h_S1x16x1 rfl) (.inl rfl))
  let _ : Vec F S1x16x1 .i32 ← Prog.lift (.load arg3 (rowRect 1).toLoadRect (View.loadsAt_vmem h_S1x16x1))
  Prog.lift (.store arg3 (rowRect 1) (k0_pay1191 v138) Finset.univ (View.stores_vmem_bits_univ h_S1x16x1 rfl) (.inl rfl))
  let _ : Vec F S1x16x1 .i32 ← Prog.lift (.load arg2 (rowRect 0).toLoadRect (View.loadsAt_vmem h_S1x16x1))
  Prog.lift (.store arg2 (rowRect 0) (k0_pay1192 v137) Finset.univ (View.stores_vmem_bits_univ h_S1x16x1 rfl) (.inl rfl))
  let _ : Vec F S1x16x1 .i32 ← Prog.lift (.load arg3 (rowRect 0).toLoadRect (View.loadsAt_vmem h_S1x16x1))
  Prog.lift (.store arg3 (rowRect 0) (k0_pay1193 v138) Finset.univ (View.stores_vmem_bits_univ h_S1x16x1 rfl) (.inl rfl))
  let _ ← L
  let v4238 : Vec F S1x16x1 .i32 ← Prog.lift (.load arg4 (rowRect 511).toLoadRect (View.loadsAt_vmem h_S1x16x1))
  let v4240 : Vec F S1x16x1 .i32 ← Prog.lift (.load arg4 (rowRect 510).toLoadRect (View.loadsAt_vmem h_S1x16x1))
  let v4242 : Vec F S1x16x1 .i32 ← Prog.lift (.load arg4 (rowRect 509).toLoadRect (View.loadsAt_vmem h_S1x16x1))
  pure ⟨k0_pay1197 v4238, k0_pay1198 v4240, k0_pay1199 v4242⟩

/-- The printed part with the row loop is the same part around its loop. -/
theorem part_eq (arg0 : Memref sig .tc .vmem S512x512 .f32) (harg0 : arg0.IsWhole) (arg1 : Memref sig .tc .vmem S512x512 .f32)
    (harg1 : arg1.IsWhole) (arg2 : Memref sig .tc .vmem S512x16x1 .i32) (harg2 : arg2.IsWhole)
    (arg3 : Memref sig .tc .vmem S512x16x1 .i32) (harg3 : arg3.IsWhole) (arg4 : Memref sig .tc .vmem S512x16x1 .i32)
    (harg4 : arg4.IsWhole) (v137 v138 : IVec S16x512 32) (v4215 : IVec S16x1 32) :
    k0_part142 (F := F) arg0 harg0 arg1 harg1 arg2 harg2 arg3 harg3 arg4 harg4 v137 v138 v4215
      = around arg2 arg3 arg4 (Scf.Loop.for k0_t1_loop k0_t1_ok (broadcast S16x1 0#32) (rowBody (F := F) arg2 arg3 arg4)) v137 v138 v4215 := by
  chain_rfl

/-- The printed part with the row loop, with the loop as rows in order. -/
theorem part_rows : k0_part142 (F := F) = fun arg0 harg0 arg1 harg1 arg2 harg2 arg3 harg3 arg4 harg4 v137 v138 v4215 =>
    around arg2 arg3 arg4 (scanRows (F := F) arg2 arg3 arg4 512 (broadcast S16x1 0#32)) v137 v138 v4215 := by
  funext arg0 harg0 arg1 harg1 arg2 harg2 arg3 harg3 arg4 harg4 v137 v138 v4215
  rw [part_eq, loop_eq]

set_option pp.maxSteps 100 in
set_option maxRecDepth 65536 in
/-- The printed body is the body by recursions. -/
theorem kernel_eq : cc0__hyst_kernel (F := F) = body (F := F) := by
  delta cc0__hyst_kernel k0_part190
  rw [part_rows]
  chain_rfl

end Cert.KernelIdeal.Hyst
-- ==== Proof.RowRules.lean ====
/- Rules for the three row recursions of the kernel's body. -/
module

public import proofs.«01_k».proof.Proof.Rows
public import Idealize.ShloMosaic.Lib.Pipeline.FrameBody

@[expose] public section

noncomputable section

namespace Cert.KernelIdeal.Hyst

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (defs : Defs nD τ sig (Elt F) Λ₀) (𝒱 : Variants) (c : Dev nD) (bd : Option 𝒱.V) (E : Set ℕ)

/-! ### One access -/

/-- A load through a rectangle reads the memref's contents there. -/
theorem ld {cs : CoreSpace} {s : Shape} {e : EltTy} {α : Type} (m : Memref sig .tc cs s e) (r : Rect s) (hl : m.view.LoadsAt r.toLoadRect)
    (X : s.Idx → Elt F e) (k : (r.shape.Idx → Elt F e) → Prog (TpuEff nD τ sig (Elt F) Λ₀ .tc) α) (K : α → sProp 𝕄) :
    (owns (c : Thread nD τ) m fullShare X : sProp 𝕄)
      ⊢ iprop((owns (c : Thread nD τ) m fullShare X -∗ wp frame (wpE defs 𝒱 (c : Thread nD τ) bd) E (k fun x => X (r.emb x)) K)
        -∗ wp frame (wpE defs 𝒱 (c : Thread nD τ) bd) E (Prog.lift (.load m r.toLoadRect hl) >>= k) K) := by
  show _ ⊢ iprop(_ -∗ wp frame (wpE defs 𝒱 (c : Thread nD τ) bd) E (.op (.load m r.toLoadRect hl) k) K)
  unfold owns
  iintro ⟨%f, %hf, H⟩ HK
  iapply (wp_load (c := (c : Thread nD τ)) 𝒱 bd E (m := m) (r := r.toLoadRect) (hl := hl) (k := k) (Q := K) (q := fullShare) (f := f) (S := m.view.set) (Finset.map_subset_map.mpr (Finset.subset_univ _))) $$ H
  iintro H
  have e : m.view.readAt (Elt F) r.toLoadRect f = fun x => X (r.emb x) := by subst hf; rfl
  rw [e]
  iapply HK
  iexists f
  isplitr
  · ipureintro; exact hf
  · iexact H

/-- A store through a rectangle lays the stored values over the memref's contents there. -/
theorem st {cs : CoreSpace} {s : Shape} {e : EltTy} {α : Type} (m : Memref sig .tc cs s e) (r : Rect s) (w : r.shape.Idx → Elt F e)
    (hx : (m.access r).Stores Finset.univ) (hm : Finset.univ = Finset.univ ∨ ∀ a, r.stride a = 1)
    (X : s.Idx → Elt F e) (k : PUnit → Prog (TpuEff nD τ sig (Elt F) Λ₀ .tc) α) (K : α → sProp 𝕄) :
    (owns (c : Thread nD τ) m fullShare X : sProp 𝕄)
      ⊢ iprop((owns (c : Thread nD τ) m fullShare (r.overlay X w) -∗ wp frame (wpE defs 𝒱 (c : Thread nD τ) bd) E (k ⟨⟩) K)
        -∗ wp frame (wpE defs 𝒱 (c : Thread nD τ) bd) E (Prog.lift (.store m r w Finset.univ hx hm) >>= k) K) := by
  show _ ⊢ iprop(_ -∗ wp frame (wpE defs 𝒱 (c : Thread nD τ) bd) E (.op (.store m r w Finset.univ hx hm) k) K)
  unfold owns
  iintro ⟨%f, %hf, H⟩ HK
  iapply (wp_store (c := (c : Thread nD τ)) 𝒱 bd E (m := m) (r := r) (w := w) (hx := hx) (hm := hm) (k := k) (Q := K) (f := f) (S := m.view.set)
    (View.set_slice_subset ..)) $$ H
  iintro H
  iapply HK
  iexists ((m.access r).write (Elt F) f w Finset.univ)
  isplitr
  · ipureintro
    funext y
    by_cases hy : y ∈ r.set
    · rw [← Rect.map_emb_univ] at hy
      obtain ⟨x, -, rfl⟩ := Finset.mem_map.mp hy
      rw [Rect.overlay_emb]
      exact View.read_slice_write_emb r f w (Finset.mem_univ x)
    · rw [Rect.overlay_of_not_mem _ _ _ hy, ← hf]
      exact View.read_slice_write_of_not_mem r f w _ (by rwa [Rect.map_emb_univ])
  · iexact H

/-- A returned value. -/
theorem rt {α : Type} (a : α) (K : α → sProp 𝕄) :
    K a ⊢ wp frame (wpE defs 𝒱 (c : Thread nD τ) bd) E (pure a : Prog (TpuEff nD τ sig (Elt F) Λ₀ .tc) α) K := by
  show _ ⊢ wp frame (wpE defs 𝒱 (c : Thread nD τ) bd) E (Prog.ret a) K
  rw [wp_ret]
  iintro H
  imodintro
  iexact H

/-! ### Rows of a table -/

/-- The table holds `r` as its row `511 - n`. -/
def Has (X : Vec F S512x16x1 .i32) (n : Nat) (r : IVec S1x16x1 32) : Prop :=
  ∀ x, X ((rowRect n).emb x) = r x

/-- The row that a written block lies in. -/
theorem row_val (n : Nat) (x : S1x16x1.Idx) : (((rowRect n).emb x) 0).val = 511 - n := by
  have h : (x 0).val < 1 := (x 0).isLt
  show 511 - n + 1 * (x 0).val = 511 - n
  omega

/-- A row just stored is there, -/
theorem has_hit (X : Vec F S512x16x1 .i32) (n : Nat) (r : IVec S1x16x1 32) : Has (F := F) ((rowRect n).overlay X r) n r :=
  fun x => Rect.overlay_emb (rowRect n) X r x

/-- and the other rows are as they were. -/
theorem has_miss {X : Vec F S512x16x1 .i32} {n m : Nat} (hn : n < 512) (hm : m < 512) (hmn : m ≠ n) (r : IVec S1x16x1 32)
    {r' : IVec S1x16x1 32} (h : Has (F := F) X m r') : Has (F := F) ((rowRect n).overlay X r) m r' := by
  intro x
  rw [Rect.overlay_of_not_mem]
  · exact h x
  · rw [Rect.mem_set_unit]
    intro hall
    have h0 := hall 0
    rw [row_val] at h0
    have h1 : 511 - n ≤ 511 - m ∧ 511 - m < 511 - n + 1 := h0
    omega

/-! ### The three recursions -/

/-- Writing rows: afterwards every row of both word tables holds its column. -/
theorem store_rows (arg2 arg3 : Memref sig .tc .vmem S512x16x1 .i32) (T U : IVec S16x512 32) (K : PUnit → sProp 𝕄) (n : Nat) :
    ∀ (hn : n ≤ 512) (X Y : Vec F S512x16x1 .i32)
      (hX : ∀ m, n ≤ m → m < 512 → Has (F := F) X m (colOf T (511 - m) (colSlices m)))
      (hY : ∀ m, n ≤ m → m < 512 → Has (F := F) Y m (colOf U (511 - m) (colSlices m))),
    iprop(owns (c : Thread nD τ) arg2 fullShare X ∗ owns (c : Thread nD τ) arg3 fullShare Y
        ∗ (∀ X' : Vec F S512x16x1 .i32, ∀ Y' : Vec F S512x16x1 .i32,
          ⌜(∀ m, m < 512 → Has (F := F) X' m (colOf T (511 - m) (colSlices m)))
            ∧ (∀ m, m < 512 → Has (F := F) Y' m (colOf U (511 - m) (colSlices m)))⌝
          -∗ owns (c : Thread nD τ) arg2 fullShare X' -∗ owns (c : Thread nD τ) arg3 fullShare Y' -∗ K ⟨⟩))
      ⊢ wp frame (wpE defs 𝒱 (c : Thread nD τ) bd) E (storeRows (F := F) arg2 arg3 T U n) K := by
  induction n with
  | zero =>
    intro hn X Y hX hY
    iintro ⟨HX, HY, HK⟩
    iapply (rt defs 𝒱 c bd E)
    iapply HK $$ [] HX HY
    ipureintro
    exact ⟨fun m hm => hX m (Nat.zero_le m) hm, fun m hm => hY m (Nat.zero_le m) hm⟩
  | succ n ih =>
    intro hn X Y hX hY
    have step : ∀ {T : IVec S16x512 32} {X : Vec F S512x16x1 .i32},
        (∀ m, n + 1 ≤ m → m < 512 → Has (F := F) X m (colOf T (511 - m) (colSlices m))) →
        ∀ m, n ≤ m → m < 512 → Has (F := F) ((rowRect n).overlay X (colOf T (511 - n) (colSlices n))) m (colOf T (511 - m) (colSlices m)) := by
      intro T X hX m h1 h2
      rcases Nat.eq_or_lt_of_le h1 with rfl | h3
      · exact has_hit X _ _
      · exact has_miss (by omega) h2 (by omega) _ (hX m h3 h2)
    unfold storeRows
    iintro ⟨HX, HY, HK⟩
    iapply (ld defs 𝒱 c bd E arg2 (rowRect n)) $$ HX
    iintro HX
    iapply (st defs 𝒱 c bd E arg2 (rowRect n)) $$ HX
    iintro HX
    iapply (ld defs 𝒱 c bd E arg3 (rowRect n)) $$ HY
    iintro HY
    iapply (st defs 𝒱 c bd E arg3 (rowRect n)) $$ HY
    iintro HY
    iapply (ih (by omega) ((rowRect n).overlay X (colOf T (511 - n) (colSlices n)))
      ((rowRect n).overlay Y (colOf U (511 - n) (colSlices n))) (step hX) (step hY))
    isplitl [HX]
    · iexact HX
    isplitl [HY]
    · iexact HY
    · iexact HK

/-- The promoted words after the first `i` rows, from the rows of the two word tables. -/
def prom (w d : Nat → IVec S1x16x1 32) : Nat → IVec S16x1 32
  | 0 => broadcast S16x1 0#32
  | i + 1 => rowStep (F := F) (w i) (d i) (prom w d i)

/-- Scanning rows: afterwards every row of the promoted table holds its promoted words. -/
theorem scan_rows (arg2 arg3 arg4 : Memref sig .tc .vmem S512x16x1 .i32) (w d : Nat → IVec S1x16x1 32)
    (X Y : Vec F S512x16x1 .i32) (hX : ∀ m, m < 512 → Has (F := F) X m (w (511 - m)))
    (hY : ∀ m, m < 512 → Has (F := F) Y m (d (511 - m))) (K : IVec S16x1 32 → sProp 𝕄) (n : Nat) :
    ∀ (hn : n ≤ 512) (Z : Vec F S512x16x1 .i32) (p : IVec S16x1 32) (hp : p = prom (F := F) w d (512 - n))
      (hZ : ∀ m, n ≤ m → m < 512 → Has (F := F) Z m (shapeCast S1x16x1 (prom (F := F) w d (512 - m)) shapeCasts_S16x1_S1x16x1)),
    iprop(owns (c : Thread nD τ) arg2 fullShare X ∗ owns (c : Thread nD τ) arg3 fullShare Y ∗ owns (c : Thread nD τ) arg4 fullShare Z
        ∗ (∀ Z' : Vec F S512x16x1 .i32, ∀ q : IVec S16x1 32,
          ⌜∀ m, m < 512 → Has (F := F) Z' m (shapeCast S1x16x1 (prom (F := F) w d (512 - m)) shapeCasts_S16x1_S1x16x1)⌝
          -∗ owns (c : Thread nD τ) arg2 fullShare X -∗ owns (c : Thread nD τ) arg3 fullShare Y
          -∗ owns (c : Thread nD τ) arg4 fullShare Z' -∗ K q))
      ⊢ wp frame (wpE defs 𝒱 (c : Thread nD τ) bd) E (scanRows (F := F) arg2 arg3 arg4 n p) K := by
  induction n with
  | zero =>
    intro hn Z p hp hZ
    iintro ⟨HX, HY, HZ, HK⟩
    iapply (rt defs 𝒱 c bd E)
    iapply HK $$ [] HX HY HZ
    ipureintro
    exact fun m hm => hZ m (Nat.zero_le m) hm
  | succ n ih =>
    intro hn Z p hp hZ
    have e1 : (fun x => X ((rowRect n).emb x)) = w (511 - n) := funext (hX n (by omega))
    have e2 : (fun x => Y ((rowRect n).emb x)) = d (511 - n) := funext (hY n (by omega))
    have e3 : rowStep (F := F) (w (511 - n)) (d (511 - n)) p = prom (F := F) w d (512 - n) := by
      rw [hp, show 512 - n = (511 - n) + 1 by omega, show 512 - (n + 1) = 511 - n by omega]; rfl
    have hstep : ∀ m, n ≤ m → m < 512 → Has (F := F) ((rowRect n).overlay Z (shapeCast S1x16x1 (prom (F := F) w d (512 - n)) shapeCasts_S16x1_S1x16x1)) m
        (shapeCast S1x16x1 (prom (F := F) w d (512 - m)) shapeCasts_S16x1_S1x16x1) := by
      intro m h1 h2
      rcases Nat.eq_or_lt_of_le h1 with rfl | h3
      · exact has_hit Z _ _
      · exact has_miss (by omega) h2 (by omega) _ (hZ m h3 h2)
    unfold scanRows rowAt rowOff
    iintro ⟨HX, HY, HZ, HK⟩
    rw [wp_bind]
    iapply (ld defs 𝒱 c bd E arg2 (rowRect n)) $$ HX
    iintro HX
    iapply (ld defs 𝒱 c bd E arg3 (rowRect n)) $$ HY
    iintro HY
    iapply (ld defs 𝒱 c bd E arg4 (rowRect n)) $$ HZ
    iintro HZ
    iapply (st defs 𝒱 c bd E arg4 (rowRect n)) $$ HZ
    iintro HZ
    rw [e1, e2, e3]
    iapply (rt defs 𝒱 c bd E)
    iapply (ih (by omega) ((rowRect n).overlay Z (shapeCast S1x16x1 (prom (F := F) w d (512 - n)) shapeCasts_S16x1_S1x16x1))
      (prom (F := F) w d (512 - n)) rfl hstep)
    isplitl [HX]
    · iexact HX
    isplitl [HY]
    · iexact HY
    isplitl [HZ]
    · iexact HZ
    · iexact HK

/-- The last `n` columns of a sequence of rows. -/
def colsFrom (r : Nat → IVec S1x16x1 32) : (n : Nat) → Cols n
  | 0 => ⟨⟩
  | n + 1 => (shapeCast S16x1 (r (511 - n)) shapeCasts_S1x16x1_S16x1, colsFrom r n)

/-- Reading rows: what is read is the rows the table holds. -/
theorem load_rows (arg4 : Memref sig .tc .vmem S512x16x1 .i32) (r : Nat → IVec S1x16x1 32) (Z : Vec F S512x16x1 .i32)
    (hZ : ∀ m, m < 512 → Has (F := F) Z m (r (511 - m))) (n : Nat) : ∀ (hn : n ≤ 512) (K : Cols n → sProp 𝕄),
    iprop(owns (c : Thread nD τ) arg4 fullShare Z
        ∗ (owns (c : Thread nD τ) arg4 fullShare Z -∗ K (colsFrom r n)))
      ⊢ wp frame (wpE defs 𝒱 (c : Thread nD τ) bd) E (loadRows (F := F) arg4 n) K := by
  induction n with
  | zero =>
    intro hn K
    iintro ⟨HZ, HK⟩
    iapply (rt defs 𝒱 c bd E (colsFrom r 0))
    iapply HK $$ HZ
  | succ n ih =>
    intro hn K
    have e1 : (fun x => Z ((rowRect n).emb x)) = r (511 - n) := funext (hZ n (by omega))
    rw [show colsFrom r (n + 1) = ((shapeCast S16x1 (r (511 - n)) shapeCasts_S1x16x1_S16x1, colsFrom r n) : Cols (n + 1)) from rfl]
    unfold loadRows
    iintro ⟨HZ, HK⟩
    iapply (ld defs 𝒱 c bd E arg4 (rowRect n)) $$ HZ
    iintro HZ
    rw [e1, wp_bind]
    iapply (ih (by omega) _)
    isplitl [HZ]
    · iexact HZ
    iintro HZ
    iapply (rt defs 𝒱 c bd E)
    iapply HK $$ HZ

end Cert.KernelIdeal.Hyst
-- ==== Proof.KernelRun.lean ====
/- The kernel body on whole buffers: what it leaves in the output window. -/
module

public import proofs.«01_k».proof.Proof.RowRules
public import proofs.«01_k».proof.Proof.Gen.KernelIdeal.Frame
public import Idealize.ShloMosaic.Lib.Claim

@[expose] public section

set_option maxRecDepth 16384

noncomputable section

namespace Cert.KernelIdeal.Hyst

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### What the body leaves -/

/-- Row `i` of a word table. -/
def tabRow (T : IVec S16x512 32) (i : Nat) : IVec S1x16x1 32 := colOf T (511 - (511 - i)) (colSlices (511 - i))

/-- Equal column numbers give equal columns. -/
theorem colOf_congr (T : IVec S16x512 32) {i j : Nat} (e : i = j) (h : S16x512.Slices ![0, i] S16x1)
    (h' : S16x512.Slices ![0, j] S16x1) : colOf T i h = colOf T j h' := by subst e; rfl

/-- A row of the scratch table is a column of the packed table. -/
theorem tabRow_eq (T : IVec S16x512 32) (m : Nat) : tabRow T (511 - m) = colOf T (511 - m) (colSlices m) :=
  colOf_congr T (by omega) _ _

/-- The promoted words of row `i` of an input. -/
def promRow (x : Vec F S512x512 .f32) (i : Nat) : IVec S1x16x1 32 :=
  shapeCast S1x16x1 (prom (F := F) (tabRow (weakTab x)) (tabRow (nearTab x)) (i + 1)) shapeCasts_S16x1_S1x16x1

/-- What the body leaves in the output window, from the input window. -/
def out (x : Vec F S512x512 .f32) : Vec F S512x512 .f32 := image x (joined (colsFrom (promRow x) 512))

/-- The rectangle of a whole window. -/
abbrev wholeRect : Rect S512x512 := Rect.unit (s := S512x512) ![0, 0] S512x512.size inb_S512x512_S512x512_0_0

/-- The whole rectangle places every pixel at itself. -/
theorem wholeRect_emb (x : S512x512.Idx) : wholeRect.emb x = x := funext fun a => Fin.ext (by
  match a with
  | 0 => show 0 + 1 * (x 0).val = (x 0).val; omega
  | 1 => show 0 + 1 * (x 1).val = (x 1).val; omega)

/-- Writing the whole rectangle replaces the array. -/
theorem overlay_whole (X w : Vec F S512x512 .f32) : wholeRect.overlay X w = w := funext fun y => by
  have h := Rect.overlay_emb wholeRect X w y
  rw [wholeRect_emb] at h
  exact h

/-- The kernel's body on whole buffers: the input is kept, the output is left at `out` of the input. -/
theorem sound_kernel (c : Dev nD) (E : Set ℕ) (arg0 : Memref sig .tc .vmem S512x512 .f32) (harg0 : arg0.IsWhole)
    (arg1 : Memref sig .tc .vmem S512x512 .f32) (harg1 : arg1.IsWhole) (arg2 : Memref sig .tc .vmem S512x16x1 .i32)
    (harg2 : arg2.IsWhole) (arg3 : Memref sig .tc .vmem S512x16x1 .i32) (harg3 : arg3.IsWhole)
    (arg4 : Memref sig .tc .vmem S512x16x1 .i32) (harg4 : arg4.IsWhole) (x : Vec F S512x512 .f32) (K : PUnit → sProp 𝕄) :
    iprop(owns (c : Thread nD τ) arg0 fullShare x ∗ (∃ d, owns (c : Thread nD τ) arg1 fullShare d)
        ∗ (∃ d, owns (c : Thread nD τ) arg2 fullShare d) ∗ (∃ d, owns (c : Thread nD τ) arg3 fullShare d)
        ∗ (∃ d, owns (c : Thread nD τ) arg4 fullShare d)
        ∗ (iprop(owns (c : Thread nD τ) arg0 fullShare x ∗ owns (c : Thread nD τ) arg1 fullShare (out x)
            ∗ (∃ d, owns (c : Thread nD τ) arg2 fullShare d) ∗ (∃ d, owns (c : Thread nD τ) arg3 fullShare d)
            ∗ (∃ d, owns (c : Thread nD τ) arg4 fullShare d)) -∗ K ⟨⟩))
      ⊢ wp frame (wpE (defs₀ (F := F)) Variants.none c none) E
          (cc0__hyst_kernel arg0 harg0 arg1 harg1 arg2 harg2 arg3 harg3 arg4 harg4) K := by
  rw [kernel_eq]
  unfold body
  iintro ⟨H0, ⟨%d1, H1⟩, ⟨%d2, H2⟩, ⟨%d3, H3⟩, ⟨%d4, H4⟩, Hk⟩
  iapply (ld defs₀ Variants.none c none E arg0 wholeRect) $$ H0
  iintro H0
  simp only [wholeRect_emb]
  rw [wp_bind]
  iapply (store_rows defs₀ Variants.none c none E arg2 arg3 (weakTab x) (nearTab x) _ 512 le_rfl d2 d3
    (fun m h1 h2 => absurd h1 (by omega)) (fun m h1 h2 => absurd h1 (by omega)))
  isplitl [H2]
  · iexact H2
  isplitl [H3]
  · iexact H3
  iintro %X %Y %hXY H2 H3
  rw [wp_bind]
  iapply (scan_rows defs₀ Variants.none c none E arg2 arg3 arg4 (tabRow (weakTab x)) (tabRow (nearTab x)) X Y
    (fun m hm => (tabRow_eq (weakTab x) m).symm ▸ hXY.1 m hm) (fun m hm => (tabRow_eq (nearTab x) m).symm ▸ hXY.2 m hm)
    _ 512 le_rfl d4 (broadcast S16x1 0#32) rfl (fun m h1 h2 => absurd h1 (by omega)))
  isplitl [H2]
  · iexact H2
  isplitl [H3]
  · iexact H3
  isplitl [H4]
  · iexact H4
  iintro %Z %q %hZ H2 H3 H4
  have hZ' : ∀ m, m < 512 → Has (F := F) Z m (promRow x (511 - m)) := fun m hm => by
    have h := hZ m hm
    rw [show 512 - m = 511 - m + 1 by omega] at h
    exact h
  rw [wp_bind]
  iapply (load_rows defs₀ Variants.none c none E arg4 (promRow x) Z hZ' 512 le_rfl _)
  isplitl [H4]
  · iexact H4
  iintro H4
  iapply (ld defs₀ Variants.none c none E arg1 wholeRect) $$ H1
  iintro H1
  iapply (st defs₀ Variants.none c none E arg1 wholeRect) $$ H1
  iintro H1
  iapply (rt defs₀ Variants.none c none E)
  rw [overlay_whole]
  iapply Hk
  isplitl [H0]
  · iexact H0
  isplitl [H1]
  · iexact H1
  isplitl [H2]
  · iexists X; iexact H2
  isplitl [H3]
  · iexists Y; iexact H3
  · iexists Z; iexact H4

end Cert.KernelIdeal.Hyst
-- ==== Proof.KernelFrame.lean ====
/- The launch of the kernel: it runs, the argument is kept, the counters end at zero, and the result is the image of
   the body. -/
module

public import proofs.«01_k».proof.Proof.KernelRun
public import proofs.«01_k».proof.Proof.Gen.KernelIdeal.Points
public import Idealize.ShloMosaic.Lib.Pipeline.Value

@[expose] public section

set_option maxRecDepth 16384

noncomputable section

namespace Cert.KernelIdeal.Hyst

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the two windows: the input block stays, the output block becomes `out` of the input block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out (iblk m c 0 t)
  Φ _ := Pipeline.ΦA spec0 c
  q _ := fullShare
  owed _ := 0

/-- The arrays start at what the region finds. -/
theorem A_eq (c : Dev nD) (w : Fin cfg0.W) : (dats m 0 c).A w = V m c (Pipeline.arrRef spec0 w) := by
  dsimp only [dats]

/-- The input buffer holds the input block after the body. -/
theorem after0 (c : Dev nD) (t : Fin cfg0.N) : (dats m 0 c).after 0 t = iblk m c 0 t := by dsimp only [dats]
/-- The output buffer holds the image of the input block after the body. -/
theorem after1 (c : Dev nD) (t : Fin cfg0.N) : (dats m 0 c).after 1 t = out (iblk m c 0 t) := by dsimp only [dats]

/-- The body finds the input block in the input window. -/
theorem before0 (c : Dev nD) (t : Fin cfg0.N) (d) : (dats m 0 c).before 0 t d = iblk m c 0 t :=
  before0_0_of m (dats m 0 c) (A_eq m c 0) (after0 m c) t d

/-- What the core keeps besides the windows: the three word buffers, and its generator. -/
theorem kept_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA
  rw [scopedRest0_eq]
  simp only [owns_whole]
  try rfl

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body gives back at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at a point, from the body on whole buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (Pipeline.ΦA spec0 c : sProp 𝕄) from rfl,
    show (dats m 0 c).Φ t.castSucc = (Pipeline.ΦA spec0 c : sProp 𝕄) from rfl,
    show (dats m 0 c).owesAt () t.succ = (dats m 0 c).owesAt () t.castSucc from rfl,
    after0, after1, kept_eq]
  iintro ⟨⟨⟨H2, H3, H4⟩, Hr⟩, Ho, ⟨%d0, H0⟩, ⟨%d1, H1⟩⟩
  iapply (sound_kernel c Set.univ _ _ _ _ _ _ _ _ _ _ (iblk m c 0 t) _)
  isplitl [H0]; · iexact H0
  isplitl [H1]; · iexists _; iexact H1
  isplitl [H2]; · iexact H2
  isplitl [H3]; · iexact H3
  isplitl [H4]; · iexact H4
  iintro ⟨H0, H1, H2, H3, H4⟩
  isplitl [H2 H3 H4 Hr]
  · isplitl [H2 H3 H4]
    · isplitl [H2]; · iexact H2
      isplitl [H3]; · iexact H3
      iexact H4
    · iexact Hr
  isplitl [Ho]; · iexact Ho
  isplitl [H0]; · iexact H0
  iexact H1

/-- The region calls the body on its two buffers. -/
theorem row_eq (t : Fin cfg0.N) : defs₀ (F := F) .tc cfg0.body (cfg0.bodyArgs t (cfg0.slots t)) = bodyAt0 t := by
  unfold defs₀; rw [Defs.onTc_tc]

/-- The body turns the input block into its image. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- Every execution ends, with the arrays at their final contents and every counter at zero. -/
theorem run_all : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The whole program runs, and leaves the arrays the region and the host code write. -/
theorem run_frame : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The argument ends unchanged, and every counter reads zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_frame m ρ)) ((θ_run defs _ _).mono (fun _ h => h.2) (run_all m ρ))

/-! ### The result -/

/-- The input image: the argument without its two unit axes. -/
def input (c : Dev nD) : Vec F S512x512 .f32 :=
  shapeCast S512x512 (m ((c.tc : Thread nD τ).loc main_arg0)) shapeCasts_S1x1x512x512_S512x512

/-- The region finds the input image in its input array. -/
theorem V_input (c : Dev nD) : V m c main_call0_v0 = input m c := by
  show StableHlo.after hostOps0 _ _ = _
  after_results
  rfl

/-- The input block is the whole input image. -/
theorem iblk_eq (c : Dev nD) (t : Fin cfg0.N) : (iblk m c 0 t : Vec F S512x512 .f32) = input m c := by
  rw [← V_input]
  have hz : (fun a => win0_0.index t a * main_call0_v0.ty.shape.size a) = fun _ => 0 := by
    funext a
    revert t a
    decide +kernel
  exact Memref.read_access_unit_zero (Elt F) main_call0_v0 hz (fun a => by rw [congrFun hz a]; simp) (V m c main_call0_v0)

/-- What the region writes back is the image of the input block. -/
theorem flushed_eq (c : Dev nD) (t : Fin cfg0.N) :
    (dats m 0 c).flushed 1 t = ((cfg0.win 1).blk t).view.read (Elt F) (out (input m c)) := by
  show (cfg0.win 1).cut (grid0.coords t) ((dats m 0 c).after 1 t) = _
  rw [after1, iblk_eq]
  have hz : (fun a => win0_1.index t a * main_call0_v1.ty.shape.size a) = fun _ => 0 := by
    funext a
    revert t a
    decide +kernel
  exact (Memref.read_access_unit_zero (Elt F) main_call0_v1 hz (fun a => by rw [congrFun hz a]; simp) (out (input m c))).symm

/-- The grid's one point. -/
abbrev pt : Fin cfg0.N := ⟨0, by decide +kernel⟩

/-- The output block covers the whole output array. -/
theorem cover (i : S512x512.Idx) :
    ∃ t : Fin cfg0.N, (cfg0.win 1).flush t = true ∧ i ∈ ((cfg0.win 1).blk t).view.set := by
  refine ⟨pt, flush0_1 _, ?_⟩
  show i ∈ ((View.whole main_call0_v1).slice (win0_1.rect pt)).set
  rw [View.set_slice_whole, Rect.mem_set_unit]
  intro a
  have h0 := (i a).isLt
  have e : ∀ a, win0_1.index pt a * win0_1.size a = 0
      ∧ win0_1.xsize (grid0.coords pt) a = S512x512.size a := by
    decide +kernel
  show win0_1.index pt a * win0_1.size a ≤ (i a : Nat) ∧ (i a : Nat) < win0_1.index pt a * win0_1.size a + win0_1.xsize (grid0.coords pt) a
  rw [(e a).1, (e a).2, Nat.zero_add]
  exact ⟨Nat.zero_le _, h0⟩

/-- The output array ends at `out` of the input image. -/
theorem final_out (c : Dev nD) : (dats m 0 c).arrAt 1 cfg0.N = out (input m c) :=
  (dats m 0 c).arrAt_eq_of_cover 1 (out (input m c)) (fun t _ => flushed_eq m c t) cover

/-- The result buffer: `out` of the input image, under two unit axes. -/
def result (c : Dev nD) : Vec F S1x1x512x512 .f32 :=
  broadcastInDim S1x1x512x512 ![2, 3] bcast_S512x512_S1x1x512x512_2_3 (out (input m c))

/-- After the host code the result is the image of the input. -/
theorem tail_out (c : Dev nD) : Pipeline.afterTail₀ cfgs (dats m) 0 (V0 m) [hostOps1] c main_v0 = result m c := by
  unfold Pipeline.afterTail₀
  show StableHlo.after hostOps1 _ _ = _
  after_results
  have e := Pipeline.withArrays_arr (Val := Elt F) (cfgs 0).spec launch0.win.arr_inj c (V0 m c)
    (fun w => (dats m 0 c).arrAt w cfg0.N) 1
  have e2 := e.trans (final_out m c)
  unfold result
  exact congrArg (fun z => broadcastInDim S1x1x512x512 ![2, 3] bcast_S512x512_S1x1x512x512_2_3 z) e2

/-- Every execution ends with the result buffer at `out` of the input image and the argument unchanged. -/
theorem run_value : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)) :=
  (θ_run defs _ _).mono (fun _ h c =>
    ⟨((h.1 c).2 main_v0 (Pipeline.mem_restRefs_of main_v0 (by decide) (by decide))).trans (tail_out m c), h.2 c⟩)
    (θ_run_and (run_frame m ρ) (frame_of m ρ (dats m) (A_eq m) (run_frame m ρ)))

end Cert.KernelIdeal.Hyst
-- ==== Proof.BitsFrame.lean ====
/- The frame of the program at machine floats: the two printed texts are one program. -/
module

public import proofs.«01_k».proof.Proof.KernelFrame
public import proofs.«01_k».proof.Proof.Gen.Kernel.Launch

@[expose] public section

set_option maxRecDepth 65536

noncomputable section

namespace Cert.Kernel.Hyst

open Idealize.ShloMosaic Idealize.ShloMosaic.TcCoe Idealize.ShloMosaic.Tactic Idealize.SL.Sem

variable {F : FTy → Type} [FloatOps F]

/-- The frame of the kernel, at any reading of floats. -/
def FrameK : Prop := ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

/-- The frame of the idealized kernel, at any reading of floats. -/
def FrameI : Prop := ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

/-- The two programs are the same text, so the two frames are the same statement. -/
theorem frames_eq : FrameK (F := F) = FrameI (F := F) := by
  chain_rfl

end Cert.Kernel.Hyst
-- ==== Proof.Flags.lean ====
/- Carries through sixteen words by doubling: which words a carry leaves, as statements on natural numbers, and words that
   are all zeros, one, or all ones. -/
module

public import Mathlib.Data.BitVec
public import Mathlib.Tactic.Tauto

@[expose] public section

namespace Cert.Hyst

/-! ### Windows -/

/-- A statement holds on the last `m` places up to `k`. -/
def Window (O : Nat → Prop) (m k : Nat) : Prop := ∀ j, j ≤ k → k < j + m → O j

/-- Two windows, one after the other, make one of twice the length. -/
theorem window_double (O : Nat → Prop) (m k : Nat) (hm : 0 < m) : Window O (m + m) k ↔ Window O m k ∧ (m ≤ k → Window O m (k - m)) := by
  constructor
  · intro h
    exact ⟨fun j h1 h2 => h j h1 (by omega), fun hk j h1 h2 => h j (by omega) (by omega)⟩
  · rintro ⟨h1, h2⟩ j hj hk
    by_cases h : k < j + m
    · exact h1 j hj h
    · exact h2 (by omega) j (by omega) (by omega)

/-- A carry that starts at one of the last `m` places and runs up to `k` through places that pass it on. -/
def Reaches (F O : Nat → Prop) (m k : Nat) : Prop := ∃ i, i ≤ k ∧ k < i + m ∧ F i ∧ ∀ j, i < j → j ≤ k → O j

/-- A carry from twice as far starts near, or starts far and passes through the near places. -/
theorem reaches_double (F O : Nat → Prop) (m k : Nat) (hm : 0 < m) :
    Reaches F O (m + m) k ↔ Reaches F O m k ∨ ((m ≤ k + 1 ∧ Window O m k) ∧ (m ≤ k ∧ Reaches F O m (k - m))) := by
  constructor
  · rintro ⟨i, h1, h2, h3, h4⟩
    by_cases h : k < i + m
    · exact Or.inl ⟨i, h1, h, h3, h4⟩
    · exact Or.inr ⟨⟨by omega, fun j a b => h4 j (by omega) a⟩, by omega, i, by omega, by omega, h3, fun j a b => h4 j a (by omega)⟩
  · rintro (⟨i, h1, h2, h3, h4⟩ | ⟨⟨_, h⟩, hk, i, h1, h2, h3, h4⟩)
    · exact ⟨i, h1, by omega, h3, h4⟩
    · refine ⟨i, by omega, by omega, h3, fun j a b => ?_⟩
      by_cases hj : j ≤ k - m
      · exact h4 j a hj
      · exact h j b (by omega)

/-- The carry out of a word: it starts there, or the word passes on the carry out of the word before. -/
theorem reaches_all (F O : Nat → Prop) (m k : Nat) (h : k + 1 < m) :
    Reaches F O m (k + 1) ↔ F (k + 1) ∨ (O (k + 1) ∧ Reaches F O m k) := by
  constructor
  · rintro ⟨i, h1, h2, h3, h4⟩
    rcases Nat.lt_or_ge i (k + 1) with hi | hi
    · exact Or.inr ⟨h4 _ hi le_rfl, i, by omega, by omega, h3, fun j a b => h4 j a (by omega)⟩
    · obtain rfl : i = k + 1 := by omega
      exact Or.inl h3
  · rintro (h3 | ⟨ho, i, h1, h2, h3, h4⟩)
    · exact ⟨k + 1, le_rfl, by omega, h3, fun j a b => by omega⟩
    · refine ⟨i, by omega, by omega, h3, fun j a b => ?_⟩
      rcases Nat.lt_or_ge j (k + 1) with hj | hj
      · exact h4 j a (by omega)
      · obtain rfl : j = k + 1 := by omega
        exact ho

/-- The carry out of the first word. -/
theorem reaches_zero (F O : Nat → Prop) (m : Nat) (h : 0 < m) : Reaches F O m 0 ↔ F 0 := by
  constructor
  · rintro ⟨i, h1, _, h3, _⟩
    obtain rfl : i = 0 := by omega
    exact h3
  · intro h3
    exact ⟨0, le_rfl, by omega, h3, fun j a b => by omega⟩

/-! ### Words for a statement -/

open Classical in
/-- One for a true statement, zero for a false one. -/
noncomputable def flag (p : Prop) : BitVec 32 := if p then 1#32 else 0#32

open Classical in
/-- All ones for a true statement, zero for a false one. -/
noncomputable def full (p : Prop) : BitVec 32 := if p then 4294967295#32 else 0#32

/-- A flag joined with a masked flag. -/
theorem flag_or (p q r : Prop) : flag p ||| (full q &&& flag r) = flag (p ∨ (q ∧ r)) := by
  unfold flag full
  by_cases hp : p <;> by_cases hq : q <;> by_cases hr : r <;> simp [hp, hq, hr]

/-- Two full masks intersected. -/
theorem full_and (p q : Prop) : full p &&& full q = full (p ∧ q) := by
  unfold full
  by_cases hp : p <;> by_cases hq : q <;> simp [hp, hq]

/-- The negative of a flag is the full mask. -/
theorem neg_flag (p : Prop) : 0#32 - flag p = full p := by
  unfold flag full
  by_cases hp : p <;> simp [hp]

/-- Every bit of a full mask is its condition. -/
theorem full_bit (p : Prop) (j : Nat) (h : j < 32) : (full p).getLsbD j = true ↔ p := by
  unfold full
  by_cases hp : p
  · rw [if_pos hp, show (4294967295#32) = BitVec.allOnes 32 from rfl, BitVec.getLsbD_allOnes]
    simp [h, hp]
  · simp [hp]

/-- The top bit of a word as a flag. -/
theorem top_flag (x : BitVec 32) : x >>> 31 = flag (x.getLsbD 31 = true) := by
  unfold flag
  apply BitVec.eq_of_getLsbD_eq
  intro i hi
  rw [BitVec.getLsbD_ushiftRight]
  rcases Nat.eq_zero_or_pos i with h | h
  · subst h
    cases hx : x.getLsbD (31 + 0) <;> simp_all
  · rw [BitVec.getLsbD_of_ge _ _ (by omega)]
    split <;> simp [BitVec.getLsbD_one] <;> omega

/-! ### Shifts of a column of words -/

/-- A column of words moved down by `n` places, with zeros above. -/
def down (n : Nat) (T : Nat → BitVec 32) (k : Nat) : BitVec 32 := if k < n then 0#32 else T (k - n)

/-- A column of sixteen words moved up by one place, with a zero below. -/
def up (T : Nat → BitVec 32) (k : Nat) : BitVec 32 := if k < 15 then T (k + 1) else 0#32

/-- A column of flags moved down. -/
theorem down_flag (n : Nat) (T : Nat → BitVec 32) (G : Nat → Prop) (k : Nat) (h : ∀ j ≤ k, T j = flag (G j)) :
    down n T k = flag (n ≤ k ∧ G (k - n)) := by
  unfold down
  by_cases hk : k < n
  · rw [if_pos hk]
    have : ¬ n ≤ k := by omega
    simp [flag, this]
  · rw [if_neg hk, h _ (by omega)]
    have : n ≤ k := by omega
    simp [this]

/-- A column of full masks moved down. -/
theorem down_full (n : Nat) (T : Nat → BitVec 32) (G : Nat → Prop) (k : Nat) (h : ∀ j ≤ k, T j = full (G j)) :
    down n T k = full (n ≤ k ∧ G (k - n)) := by
  unfold down
  by_cases hk : k < n
  · rw [if_pos hk]
    have : ¬ n ≤ k := by omega
    simp [full, this]
  · rw [if_neg hk, h _ (by omega)]
    have : n ≤ k := by omega
    simp [this]

/-- One doubling of the words that pass a carry on. -/
theorem pass_double (m : Nat) (hm : 0 < m) (O : Nat → Prop) (T : Nat → BitVec 32)
    (h : ∀ k, T k = full (m ≤ k + 1 ∧ Window O m k)) (k : Nat) :
    T k &&& down m T k = full (m + m ≤ k + 1 ∧ Window O (m + m) k) := by
  rw [down_full m T _ k (fun j _ => h j), h, full_and]
  congr 1
  rw [window_double O m k hm]
  apply propext
  constructor
  · rintro ⟨⟨a, b⟩, c, d, e⟩
    exact ⟨by omega, b, fun _ => e⟩
  · rintro ⟨a, b, c⟩
    exact ⟨⟨by omega, b⟩, by omega, by omega, c (by omega)⟩

/-- One doubling of the carries. -/
theorem carry_double (m : Nat) (hm : 0 < m) (F O : Nat → Prop) (T H : Nat → BitVec 32)
    (h : ∀ k, T k = full (m ≤ k + 1 ∧ Window O m k)) (hH : ∀ k, H k = flag (Reaches F O m k)) (k : Nat) :
    H k ||| (T k &&& down m H k) = flag (Reaches F O (m + m) k) := by
  rw [down_flag m H _ k (fun j _ => hH j), h, hH, flag_or]
  exact congrArg flag (propext (reaches_double F O m k hm).symm)

end Cert.Hyst
-- ==== Proof.Words.lean ====
/- One row of the scan on packed words, bit by bit: smearing, the carry of an addition, and the carries between words. -/
module

public import proofs.«01_k».proof.Proof.Flags

@[expose] public section

noncomputable section

namespace Cert.Hyst

/-! ### Inside a word -/

/-- One doubling of the smear that keeps a bit when the bits below it are all set. -/
theorem smear_double (x mask : BitVec 32) (O : Nat → Prop) (m : Nat) (hm : 0 < m) (hmask : ∀ j : Fin 32, mask.getLsbD j = decide (j.val < m))
    (h : ∀ j < 32, (x.getLsbD j = true ↔ Window O m j)) :
    ∀ j < 32, ((x &&& (x <<< m ||| mask)).getLsbD j = true ↔ Window O (m + m) j) := by
  intro j hj
  rw [window_double O m j hm, BitVec.getLsbD_and, BitVec.getLsbD_or, BitVec.getLsbD_shiftLeft, hmask ⟨j, hj⟩, ← h j hj]
  by_cases hjm : j < m
  · simp [hjm]
  · have := h (j - m) (by omega)
    simp [hjm, hj, Nat.le_of_not_lt hjm, this]

/-- The smear of a word. -/
def smear (w : BitVec 32) : BitVec 32 :=
  let y0 := w &&& (w <<< 1 ||| 1#32)
  let y1 := y0 &&& (y0 <<< 2 ||| 3#32)
  let y2 := y1 &&& (y1 <<< 4 ||| 15#32)
  let y3 := y2 &&& (y2 <<< 8 ||| 255#32)
  y3 &&& (y3 <<< 16 ||| 65535#32)

/-- A bit of the smear is set when the word's bits up to it all are. -/
theorem smear_bit (w : BitVec 32) (j : Nat) (hj : j < 32) : (smear w).getLsbD j = true ↔ ∀ i ≤ j, w.getLsbD i = true := by
  have h0 : ∀ j < 32, (w.getLsbD j = true ↔ Window (fun i => w.getLsbD i = true) 1 j) := fun j _ =>
    ⟨fun h i a b => by obtain rfl : i = j := by omega
                       exact h, fun h => h j le_rfl (by omega)⟩
  have h1 := smear_double _ 1#32 _ 1 (by omega) (by decide) h0
  have h2 := smear_double _ 3#32 _ 2 (by omega) (by decide) h1
  have h3 := smear_double _ 15#32 _ 4 (by omega) (by decide) h2
  have h4 := smear_double _ 255#32 _ 8 (by omega) (by decide) h3
  have h5 := smear_double _ 65535#32 _ 16 (by omega) (by decide) h4
  refine (h5 j hj).trans ⟨fun h i a => h i a (by omega), fun h i a _ => h i a⟩

/-- A run through a word: a bit is reached when it is weak and is a seed or the bit below it was reached. -/
def run (w s : Nat → Prop) (c : Prop) : Nat → Prop
  | 0 => w 0 ∧ (s 0 ∨ c)
  | j + 1 => w (j + 1) ∧ (s (j + 1) ∨ run w s c j)

/-- The run at the lowest bit. -/
theorem run_zero (w s : Nat → Prop) (c : Prop) : run w s c 0 = (w 0 ∧ (s 0 ∨ c)) := rfl

/-- The run with a carry in is the run without, or the carry through weak bits only. -/
theorem run_carry (w s : Nat → Prop) (c : Prop) (j : Nat) : run w s c j ↔ run w s False j ∨ (c ∧ ∀ i ≤ j, w i) := by
  induction j with
  | zero =>
    have : (∀ i ≤ 0, w i) ↔ w 0 := ⟨fun h => h 0 le_rfl, fun h i hi => (Nat.le_zero.1 hi) ▸ h⟩
    simp only [run, this]
    tauto
  | succ j ih =>
    have : (∀ i ≤ j + 1, w i) ↔ w (j + 1) ∧ ∀ i ≤ j, w i :=
      ⟨fun h => ⟨h _ le_rfl, fun i hi => h i (by omega)⟩, fun h i hi => by
        rcases Nat.lt_or_ge i (j + 1) with h' | h'
        · exact h.2 i (by omega)
        · obtain rfl : i = j + 1 := by omega
          exact h.1⟩
    simp only [run, this, ih]
    tauto

/-- The word of the run: the bits where adding the seeds to the weak bits leaves no trace, and the seeds. -/
def fill (w s : BitVec 32) : BitVec 32 := w &&& (((w + s) ^^^ 4294967295#32) ||| s)

/-- A bit of the filled word, and the carry out of it, by the carry into it. -/
theorem fill_step (w s : BitVec 32) (hs : ∀ j, s.getLsbD j = true → w.getLsbD j = true) (j : Nat) (hj : j < 32) :
    (fill w s).getLsbD j = (w.getLsbD j && (s.getLsbD j || BitVec.carry j w s false)) ∧
      BitVec.carry (j + 1) w s false = (w.getLsbD j && (s.getLsbD j || BitVec.carry j w s false)) := by
  have h := hs j
  constructor
  · unfold fill
    rw [BitVec.getLsbD_and, BitVec.getLsbD_or, BitVec.getLsbD_xor, BitVec.getLsbD_add hj,
      show (4294967295#32) = BitVec.allOnes 32 from rfl, BitVec.getLsbD_allOnes]
    revert h
    cases w.getLsbD j <;> cases s.getLsbD j <;> cases BitVec.carry j w s false <;> simp [hj]
  · rw [BitVec.carry_succ]
    revert h
    cases w.getLsbD j <;> cases s.getLsbD j <;> cases BitVec.carry j w s false <;> simp [Bool.atLeastTwo]

/-- A bit of the filled word agrees with the run. -/
theorem fill_bit (w s : BitVec 32) (hs : ∀ j, s.getLsbD j = true → w.getLsbD j = true) (j : Nat) (hj : j < 32) :
    (fill w s).getLsbD j = true ↔ run (fun i => w.getLsbD i = true) (fun i => s.getLsbD i = true) False j := by
  induction j with
  | zero =>
    rw [(fill_step w s hs 0 hj).1, BitVec.carry_zero]
    simp [run]
  | succ j ih =>
    have h1 := fill_step w s hs j (by omega)
    rw [(fill_step w s hs (j + 1) hj).1, h1.2, ← h1.1]
    simp only [run, Bool.and_eq_true, Bool.or_eq_true]
    rw [ih (by omega)]

/-! ### Across the words of a row -/

/-- The row's filled words with the carries between words, as the scan computes them. -/
def rowWords (w p d : Nat → BitVec 32) (k : Nat) : BitVec 32 :=
  let s := fun k => w k &&& (((p k ||| (p k <<< 1 ||| down 1 p k >>> 31)) ||| (p k >>> 1 ||| up p k <<< 31)) ||| d k)
  let l0 := fun k => if w k = 4294967295#32 then 4294967295#32 else 0#32
  let l1 := fun k => l0 k &&& down 1 l0 k
  let l2 := fun k => l1 k &&& down 2 l1 k
  let l3 := fun k => l2 k &&& down 4 l2 k
  let f := fun k => fill (w k) (s k)
  let h0 := fun k => f k >>> 31
  let h1 := fun k => h0 k ||| (l0 k &&& down 1 h0 k)
  let h2 := fun k => h1 k ||| (l1 k &&& down 2 h1 k)
  let h3 := fun k => h2 k ||| (l2 k &&& down 4 h2 k)
  let h4 := fun k => h3 k ||| (l3 k &&& down 8 h3 k)
  f k ||| ((0#32 - down 1 h4 k) &&& smear (w k))

/-- A word is all ones when its bits all are. -/
theorem ones_iff (w : BitVec 32) : w = 4294967295#32 ↔ ∀ i ≤ 31, w.getLsbD i = true := by
  rw [show (4294967295#32) = BitVec.allOnes 32 from rfl]
  constructor
  · rintro rfl i hi
    rw [BitVec.getLsbD_allOnes]
    simp; omega
  · intro h
    apply BitVec.eq_of_getLsbD_eq
    intro i hi
    rw [BitVec.getLsbD_allOnes, h i (by omega)]
    simp [hi]

/-- The bits of a column of words, one after the other. -/
def bitsOf (T : Nat → BitVec 32) (n : Nat) : Prop := (T (n / 32)).getLsbD (n % 32) = true

/-- The seeds of a row: weak bits that are near a strong one or touch a promoted bit of the row above. -/
def seed (w p d : Nat → BitVec 32) (k : Nat) : BitVec 32 :=
  w k &&& (((p k ||| (p k <<< 1 ||| down 1 p k >>> 31)) ||| (p k >>> 1 ||| up p k <<< 31)) ||| d k)

/-- The row's words, by the run through each word from the carry into it. -/
theorem rowWords_run (w p d : Nat → BitVec 32) (k b : Nat) (hk : k < 16) (hb : b < 32) :
    (rowWords w p d k).getLsbD b = true ↔ run (fun i => (w k).getLsbD i = true) (fun i => (seed w p d k).getLsbD i = true)
      (1 ≤ k ∧ Reaches (fun k => (fill (w k) (seed w p d k)).getLsbD 31 = true) (fun k => w k = 4294967295#32) 16 (k - 1)) b := by
  have hs : ∀ k j, (seed w p d k).getLsbD j = true → (w k).getLsbD j = true := by
    intro k j h
    unfold seed at h
    rw [BitVec.getLsbD_and, Bool.and_eq_true] at h
    exact h.1
  let O : Nat → Prop := fun k => w k = 4294967295#32
  let F : Nat → Prop := fun k => (fill (w k) (seed w p d k)).getLsbD 31 = true
  have l0 : ∀ k, (if w k = 4294967295#32 then 4294967295#32 else 0#32) = full (1 ≤ k + 1 ∧ Window O 1 k) := by
    intro k
    have : (1 ≤ k + 1 ∧ Window O 1 k) ↔ w k = 4294967295#32 :=
      ⟨fun h => h.2 k le_rfl (by omega), fun h => ⟨by omega, fun j a b => by obtain rfl : j = k := by omega
                                                                             exact h⟩⟩
    rw [propext this]
    unfold full
    by_cases h : w k = 4294967295#32 <;> simp [h]
  have l1 := pass_double 1 (by omega) O _ l0
  have l2 := pass_double 2 (by omega) O _ l1
  have l3 := pass_double 4 (by omega) O _ l2
  have h0 : ∀ k, fill (w k) (seed w p d k) >>> 31 = flag (Reaches F O 1 k) := by
    intro k
    rw [top_flag]
    refine congrArg flag (propext ⟨fun h => ⟨k, le_rfl, by omega, h, fun j a b => by omega⟩, ?_⟩)
    rintro ⟨i, a, b, c, _⟩
    obtain rfl : i = k := by omega
    exact c
  have h1 := carry_double 1 (by omega) F O _ _ l0 h0
  have h2 := carry_double 2 (by omega) F O _ _ l1 h1
  have h3 := carry_double 4 (by omega) F O _ _ l2 h2
  have h4 := carry_double 8 (by omega) F O _ _ l3 h3
  have hc := down_flag 1 _ _ k (fun j _ => h4 j)
  have e : rowWords w p d k = fill (w k) (seed w p d k) ||| (full (1 ≤ k ∧ Reaches F O (8 + 8) (k - 1)) &&& smear (w k)) := by
    rw [← neg_flag, ← hc]
    rfl
  rw [e, BitVec.getLsbD_or, BitVec.getLsbD_and, Bool.or_eq_true, Bool.and_eq_true, fill_bit _ _ (hs k) b hb, full_bit _ _ hb,
    smear_bit _ _ hb, run_carry _ _ (1 ≤ k ∧ _) b]

/-- The row's words, bit after bit: the first bit is its seed. -/
theorem rowWords_first (w p d : Nat → BitVec 32) : bitsOf (rowWords w p d) 0 ↔ bitsOf (seed w p d) 0 := by
  unfold bitsOf
  refine (rowWords_run w p d 0 0 (by omega) (by omega)).trans ?_
  have hs : (seed w p d 0).getLsbD 0 = true → (w 0).getLsbD 0 = true := by
    intro h
    unfold seed at h
    rw [BitVec.getLsbD_and, Bool.and_eq_true] at h
    exact h.1
  simp only [run]
  constructor
  · rintro ⟨_, h | h⟩
    · exact h
    · exact absurd h.1 (by omega)
  · intro h
    exact ⟨hs h, Or.inl h⟩

/-- The row's words, bit after bit: a later bit is weak and is a seed or follows a promoted bit. -/
theorem rowWords_next (w p d : Nat → BitVec 32) (n : Nat) (hn : n + 1 < 512) :
    bitsOf (rowWords w p d) (n + 1) ↔ bitsOf w (n + 1) ∧ (bitsOf (seed w p d) (n + 1) ∨ bitsOf (rowWords w p d) n) := by
  unfold bitsOf
  rw [rowWords_run w p d ((n + 1) / 32) ((n + 1) % 32) (by omega) (by omega), rowWords_run w p d (n / 32) (n % 32) (by omega) (by omega)]
  by_cases h : n % 32 = 31
  · have e1 : (n + 1) / 32 = n / 32 + 1 := by omega
    have e2 : (n + 1) % 32 = 0 := by omega
    rw [e1, e2, h]
    rw [run_zero, Nat.add_sub_cancel]
    refine and_congr_right fun _ => or_congr_right ?_
    have hs : ∀ j, (seed w p d (n / 32)).getLsbD j = true → (w (n / 32)).getLsbD j = true := by
      intro j h
      unfold seed at h
      rw [BitVec.getLsbD_and, Bool.and_eq_true] at h
      exact h.1
    rw [run_carry, ← fill_bit _ _ hs 31 (by omega), ← ones_iff]
    rcases Nat.eq_zero_or_pos (n / 32) with h0 | h0
    · rw [h0, reaches_zero _ _ _ (by omega)]
      simp
    · obtain ⟨k, hk⟩ : ∃ k, n / 32 = k + 1 := ⟨n / 32 - 1, by omega⟩
      rw [hk, reaches_all _ _ _ _ (by omega)]
      simp only [Nat.add_sub_cancel, Nat.le_add_left, true_and]
      tauto
  · have e1 : (n + 1) / 32 = n / 32 := by omega
    have e2 : (n + 1) % 32 = n % 32 + 1 := by omega
    rw [e1, e2]
    rfl

end Cert.Hyst
-- ==== Proof.Spec.lean ====
/- The row scan as plain statements on natural numbers: which pixels a scan in reading order promotes. -/
module

public import Mathlib.Logic.Basic
public import Mathlib.Tactic.Tauto

@[expose] public section

namespace Cert.Hyst

/-- One row: a weak pixel is promoted when it has a strong neighbour, when one of the three pixels above it was promoted, or
    when the pixel on its left was. -/
def rowP (w d prev : Nat → Prop) : Nat → Prop
  | 0 => w 0 ∧ (d 0 ∨ prev 0 ∨ prev 1)
  | j + 1 => w (j + 1) ∧ (d (j + 1) ∨ prev j ∨ prev (j + 1) ∨ prev (j + 2) ∨ rowP w d prev j)

/-- The rows from the top: row `n` is `promo w d (n + 1)`. -/
def promo (w d : Nat → Nat → Prop) : Nat → Nat → Prop
  | 0 => fun _ => False
  | n + 1 => rowP (w n) (d n) (promo w d n)

/-- Only weak pixels are promoted in a row. -/
theorem rowP_weak {w d prev : Nat → Prop} {j : Nat} (h : rowP w d prev j) : w j := by
  cases j with
  | zero => exact h.1
  | succ j => exact h.1

/-- Only weak pixels are promoted. -/
theorem promo_weak {w d : Nat → Nat → Prop} {n j : Nat} (h : promo w d (n + 1) j) : w n j := rowP_weak h

/-- A row depends on its weak pixels and, at the weak ones, on the rest. -/
theorem rowP_congr {w d prev w' d' prev' : Nat → Prop} (N : Nat) (hw : ∀ j < N, w j ↔ w' j) (hd : ∀ j < N, w j → (d j ↔ d' j))
    (hp : ∀ j ≤ N, prev j ↔ prev' j) : ∀ j < N, rowP w d prev j ↔ rowP w' d' prev' j := by
  intro j
  induction j with
  | zero =>
    intro h
    have a := hw 0 h
    have b := hd 0 h
    have c := hp 0 (by omega)
    have e := hp 1 (by omega)
    simp only [rowP]
    rw [← a, ← c, ← e]
    exact and_congr_right fun hw => by rw [b hw]
  | succ j ih =>
    intro h
    have a := hw _ h
    have b := hd _ h
    have c := hp j (by omega)
    have e := hp (j + 1) (by omega)
    have f := hp (j + 2) (by omega)
    have g := ih (by omega)
    simp only [rowP]
    rw [← a, ← c, ← e, ← f, ← g]
    exact and_congr_right fun hw => by rw [b hw]

end Cert.Hyst
-- ==== Proof.RowBits.lean ====
/- The row step on packed words is one row of the scan. -/
module

public import proofs.«01_k».proof.Proof.Words
public import proofs.«01_k».proof.Proof.Spec
public import proofs.«01_k».proof.Proof.Rows
public import Idealize.ShloMosaic.Lib.Pointwise

@[expose] public section

set_option maxRecDepth 16384

noncomputable section

namespace Cert.Hyst

/-! ### The seeds, bit by bit -/

/-- The bits of the row above moved up by one. -/
theorem left_bit (p : Nat → BitVec 32) (n : Nat) :
    (p (n / 32) <<< 1 ||| down 1 p (n / 32) >>> 31).getLsbD (n % 32) = true ↔ 1 ≤ n ∧ bitsOf p (n - 1) := by
  unfold bitsOf
  rw [BitVec.getLsbD_or, BitVec.getLsbD_shiftLeft, BitVec.getLsbD_ushiftRight]
  by_cases h : n % 32 = 0
  · have e2 : 31 + 0 = 31 := rfl
    rw [h]
    by_cases h0 : n = 0
    · subst h0
      simp [down]
    · rw [show (n - 1) / 32 = n / 32 - 1 by omega, show (n - 1) % 32 = 31 by omega]
      unfold down
      rw [if_neg (by omega)]
      simp
      omega
  · rw [BitVec.getLsbD_of_ge _ _ (by omega : 32 ≤ 31 + n % 32), show (n - 1) / 32 = n / 32 by omega, show (n - 1) % 32 = n % 32 - 1 by omega]
    have h1 : ¬ n % 32 < 1 := by omega
    have h2 : n % 32 < 32 := by omega
    have h3 : 1 ≤ n := by omega
    simp [h1, h2, h3]

/-- The bits of the row above moved down by one. -/
theorem right_bit (p : Nat → BitVec 32) (n : Nat) (hn : n < 512) :
    (p (n / 32) >>> 1 ||| up p (n / 32) <<< 31).getLsbD (n % 32) = true ↔ n + 1 < 512 ∧ bitsOf p (n + 1) := by
  unfold bitsOf
  rw [BitVec.getLsbD_or, BitVec.getLsbD_shiftLeft, BitVec.getLsbD_ushiftRight]
  by_cases h : n % 32 = 31
  · rw [h, show (n + 1) / 32 = n / 32 + 1 by omega, show (n + 1) % 32 = 0 by omega]
    unfold up
    by_cases h0 : n / 32 < 15
    · rw [if_pos h0]
      have : n + 1 < 512 := by omega
      simp [this]
    · rw [if_neg h0]
      have : ¬ n + 1 < 512 := by omega
      simp [this]
  · rw [show (n + 1) / 32 = n / 32 by omega, show (n + 1) % 32 = 1 + n % 32 by omega]
    have h1 : n % 32 < 31 := by omega
    have h2 : n + 1 < 512 := by omega
    simp [h1, h2]

/-- A seed is a weak bit near a strong one or under a promoted one. -/
theorem seed_bit (w p d : Nat → BitVec 32) (n : Nat) (hn : n < 512) :
    bitsOf (seed w p d) n ↔ bitsOf w n ∧ (((bitsOf p n ∨ (1 ≤ n ∧ bitsOf p (n - 1))) ∨ (n + 1 < 512 ∧ bitsOf p (n + 1))) ∨ bitsOf d n) := by
  have h1 := left_bit p n
  have h2 := right_bit p n hn
  rw [← h1, ← h2]
  unfold bitsOf seed
  rw [BitVec.getLsbD_and, BitVec.getLsbD_or, BitVec.getLsbD_or, BitVec.getLsbD_or, Bool.and_eq_true, Bool.or_eq_true, Bool.or_eq_true,
    Bool.or_eq_true]

/-- The row's words are one row of the scan. -/
theorem rowWords_rowP (w p d : Nat → BitVec 32) (n : Nat) (hn : n < 512) :
    bitsOf (rowWords w p d) n ↔ rowP (bitsOf w) (bitsOf d) (fun n => n < 512 ∧ bitsOf p n) n := by
  induction n with
  | zero =>
    rw [rowWords_first, seed_bit _ _ _ _ hn]
    simp only [rowP]
    refine and_congr_right fun _ => ?_
    simp
    tauto
  | succ n ih =>
    rw [rowWords_next _ _ _ _ hn, seed_bit _ _ _ _ hn, ih (by omega)]
    simp only [rowP, Nat.add_sub_cancel, Nat.le_add_left, true_and, hn]
    have h1 : n < 512 := by omega
    have h2 : n + 1 < 512 := hn
    simp only [h1, h2, true_and]
    tauto

/-! ### The row step -/

open Cert.KernelIdeal Cert.KernelIdeal.Gen Cert.KernelIdeal.Hyst
open Idealize.ShloMosaic

variable {F : FTy → Type} [FloatOps F]

/-- A column of sixteen words holds the given words. -/
def Reads (T : IVec S16x1 32) (f : Nat → BitVec 32) : Prop := ∀ k : Fin 16, T (ix2 k 0) = f k

section Reads

variable {x y : IVec S16x1 32} {f g : Nat → BitVec 32}

/-- The words of an intersection. -/
theorem reads_and (hx : Reads x f) (hy : Reads y g) : Reads (andi x y) (fun k => f k &&& g k) := fun k =>
  congrArg₂ (· &&& ·) (hx k) (hy k)

/-- The words of a union. -/
theorem reads_or (hx : Reads x f) (hy : Reads y g) : Reads (ori x y) (fun k => f k ||| g k) := fun k =>
  congrArg₂ (· ||| ·) (hx k) (hy k)

/-- The words of an exclusive union. -/
theorem reads_xor (hx : Reads x f) (hy : Reads y g) : Reads (xori x y) (fun k => f k ^^^ g k) := fun k =>
  congrArg₂ (· ^^^ ·) (hx k) (hy k)

/-- The words of a sum. -/
theorem reads_add (hx : Reads x f) (hy : Reads y g) : Reads (addi x y) (fun k => f k + g k) := fun k =>
  congrArg₂ (· + ·) (hx k) (hy k)

/-- The words of a difference. -/
theorem reads_sub (hx : Reads x f) (hy : Reads y g) : Reads (subi x y) (fun k => f k - g k) := fun k =>
  congrArg₂ (· - ·) (hx k) (hy k)

/-- The words of a constant column. -/
theorem reads_const (c : BitVec 32) : Reads (broadcast S16x1 c) (fun _ => c) := fun _ => rfl

/-- The words of a column shifted left. -/
theorem reads_shl (a : Nat) (ha : a < 32) (hx : Reads x f) : Reads (shli x (broadcast S16x1 (BitVec.ofNat 32 a))) (fun k => f k <<< a) := by
  intro k
  show IntOp.shli .vector (x (ix2 k 0)) (BitVec.ofNat 32 a) = _
  have e : (BitVec.ofNat 32 a).toNat = a := by rw [BitVec.toNat_ofNat]; omega
  unfold IntOp.shli
  rw [e, if_pos ha, hx k]
  show f k <<< (BitVec.ofNat 32 a).toNat = _
  rw [e]

/-- The words of a column shifted right. -/
theorem reads_shr (a : Nat) (ha : a < 32) (hx : Reads x f) : Reads (shrui x (broadcast S16x1 (BitVec.ofNat 32 a))) (fun k => f k >>> a) := by
  intro k
  show IntOp.shrui .vector (x (ix2 k 0)) (BitVec.ofNat 32 a) = _
  have e : (BitVec.ofNat 32 a).toNat = a := by rw [BitVec.toNat_ofNat]; omega
  unfold IntOp.shrui
  rw [e, if_pos ha, hx k]
  show f k >>> (BitVec.ofNat 32 a).toNat = _
  rw [e]

/-- Moving a column down by some places. -/
theorem reads_down (N M : Nat) (hx : Reads x f) (hs : S16x1.Slices ![0, 0] ⟨2, ![M, 1]⟩)
    (hc : Shape.Concatenates [(⟨2, ![N, 1]⟩ : Shape), ⟨2, ![M, 1]⟩] S16x1 0) :
    Reads (concatenate S16x1 0 [⟨⟨2, ![N, 1]⟩, broadcast ⟨2, ![N, 1]⟩ 0#32⟩, ⟨⟨2, ![M, 1]⟩, extractStridedSlice ⟨2, ![M, 1]⟩ ![0, 0] x hs⟩] hc) (down N f) := by
  intro k
  rw [concatenate_pair_apply]
  unfold down
  by_cases h : k.val < N
  · rw [if_pos h]
    refine (dif_pos (show ((ix2 k 0 : S16x1.Idx) 0).val < N from h)).trans ?_
    rfl
  · rw [if_neg h]
    refine (dif_neg (show ¬ ((ix2 k 0 : S16x1.Idx) 0).val < N from h)).trans ?_
    refine Eq.trans (congrArg x ?_) (hx ⟨k - N, by omega⟩)
    funext a
    match a with
    | 0 => exact Fin.ext (Nat.zero_add _)
    | 1 => exact Subsingleton.elim (α := Fin 1) _ _

/-- Moving a column up by one place. -/
theorem reads_up (hx : Reads x f) (hs : S16x1.Slices ![1, 0] S15x1) (hc : Shape.Concatenates [S15x1, S1x1] S16x1 0) :
    Reads (concatenate S16x1 0 [⟨S15x1, extractStridedSlice S15x1 ![1, 0] x hs⟩, ⟨S1x1, broadcast S1x1 0#32⟩] hc) (up f) := by
  intro k
  rw [concatenate_pair_apply]
  unfold up
  by_cases h : k.val < 15
  · rw [if_pos h]
    refine (dif_pos (show ((ix2 k 0 : S16x1.Idx) 0).val < 15 from h)).trans ?_
    refine Eq.trans (congrArg x ?_) (hx ⟨k + 1, by omega⟩)
    funext a
    match a with
    | 0 => exact Fin.ext (Nat.add_comm _ _)
    | 1 => exact Subsingleton.elim (α := Fin 1) _ _
  · rw [if_neg h]
    refine (dif_neg (show ¬ ((ix2 k 0 : S16x1.Idx) 0).val < 15 from h)).trans ?_
    rfl

end Reads

/-- A column of sixteen words. -/
def col (T : IVec S16x1 32) (k : Nat) : BitVec 32 := T (ix2 (Fin.ofNat 16 k) 0)

/-- A column of sixteen words in a scratch row. -/
def col3 (T : IVec S1x16x1 32) (k : Nat) : BitVec 32 := T (ix3 0 (Fin.ofNat 16 k) 0)

/-- A block number below sixteen is itself. -/
theorem ofNat_val (k : Fin 16) : Fin.ofNat 16 k.val = k := Fin.ext (Nat.mod_eq_of_lt k.isLt)

/-- A column has its own words. -/
theorem reads_col (T : IVec S16x1 32) : Reads T (col T) := fun k => congrArg (fun k => T (ix2 k 0)) (ofNat_val k).symm

/-- A row of a scratch table has its own words. -/
theorem reads_col3 (w : Vec F S1x16x1 .i32) : Reads (k0_pay2 (F := F) w) (col3 w) := by
  intro k
  unfold k0_pay2
  pointwise
  exact congrArg (fun k => w (ix3 0 k 0)) (ofNat_val k).symm

/-- The row step's words. -/
theorem rowStep_words (w d : Vec F S1x16x1 .i32) (p : IVec S16x1 32) :
    Reads (rowStep (F := F) w d p) (rowWords (col3 w) (col p) (col3 d)) := by
  have rw2 := reads_col3 (F := F) w
  have rd : Reads (k0_pay3 (F := F) d) (col3 d) := reads_col3 (F := F) d
  have rp := reads_col p
  have l0 : Reads (k0_pay4 (F := F) w) (fun k => if col3 w k = 4294967295#32 then 4294967295#32 else 0#32) := by
    intro k
    unfold k0_pay4
    pointwise
    rw [rw2 k]
    show (if BitVec.ofBool (col3 w k == 4294967295#32) = 1#1 then 4294967295#32 else 0#32) = _
    by_cases h : col3 w k = 4294967295#32
    · simp [h]
    · rw [beq_false_of_ne h, if_neg h]
      rfl
  have l1 : Reads (k0_pay5 (F := F) w) _ := reads_and l0 (reads_down 1 15 l0 _ _)
  have l2 : Reads (k0_pay6 (F := F) w) _ := reads_and l1 (reads_down 2 14 l1 _ _)
  have l3 : Reads (k0_pay7 (F := F) w) _ := reads_and l2 (reads_down 4 12 l2 _ _)
  have y0 := reads_and rw2 (reads_or (reads_shl 1 (by omega) rw2) (reads_const 1#32))
  have y1 := reads_and y0 (reads_or (reads_shl 2 (by omega) y0) (reads_const 3#32))
  have y2 : Reads (k0_pay8 (F := F) w) _ := reads_and y1 (reads_or (reads_shl 4 (by omega) y1) (reads_const 15#32))
  have y3 := reads_and y2 (reads_or (reads_shl 8 (by omega) y2) (reads_const 255#32))
  have y4 : Reads (k0_pay11 (k0_pay8 (F := F) w) (k0_pay9 (F := F) w) k0_pay10) _ :=
    reads_and y3 (reads_or (reads_shl 16 (by omega) y3) (reads_const 65535#32))
  have s := reads_and rw2 (reads_or (reads_or (reads_or rp (reads_or (reads_shl 1 (by omega) rp) (reads_shr 31 (by omega) (reads_down 1 15 rp
      slices_S16x1_o0_0_S15x1 concatenates_S1x1_S15x1_S16x1_d0))))
    (reads_or (reads_shr 1 (by omega) rp) (reads_shl 31 (by omega) (reads_up rp slices_S16x1_o1_0_S15x1 concatenates_S15x1_S1x1_S16x1_d0)))) rd)
  have f : Reads (k0_pay12 p (k0_pay2 (F := F) w) (k0_pay3 (F := F) d)) _ :=
    reads_and rw2 (reads_or (reads_xor (reads_add rw2 s) (reads_const 4294967295#32)) s)
  have h0 := reads_shr 31 (by omega) f
  have h1 := reads_or h0 (reads_and l0 (reads_down 1 15 h0 slices_S16x1_o0_0_S15x1 concatenates_S1x1_S15x1_S16x1_d0))
  have h2 : Reads (k0_pay13 p (k0_pay2 (F := F) w) (k0_pay3 (F := F) d) (k0_pay4 (F := F) w) (k0_pay5 (F := F) w)) _ :=
    reads_or h1 (reads_and l1 (reads_down 2 14 h1 slices_S16x1_o0_0_S14x1 concatenates_S2x1_S14x1_S16x1_d0))
  have t3 : Reads (k0_pay14 p (k0_pay2 (F := F) w) (k0_pay3 (F := F) d) (k0_pay4 (F := F) w) (k0_pay5 (F := F) w) (k0_pay6 (F := F) w)) _ :=
    reads_and l2 (reads_down 4 12 h2 slices_S16x1_o0_0_S12x1 concatenates_S4x1_S12x1_S16x1_d0)
  have h3 := reads_or h2 t3
  have h4 := reads_or h3 (reads_and l3 (reads_down 8 8 h3 slices_S16x1_o0_0_S8x1 concatenates_S8x1_S8x1_S16x1_d0))
  exact reads_or f (reads_and (reads_sub (reads_const 0#32) (reads_down 1 15 h4 slices_S16x1_o0_0_S15x1 concatenates_S1x1_S15x1_S16x1_d0)) y4)

end Cert.Hyst
-- ==== Proof.KernelScan.lean ====
/- The kernel's promoted words are the scan's rows over the two packed tables. -/
module

public import proofs.«01_k».proof.Proof.RowBits
public import proofs.«01_k».proof.Proof.KernelRun

@[expose] public section

set_option maxRecDepth 16384

noncomputable section

namespace Cert.Hyst

open Cert.KernelIdeal Cert.KernelIdeal.Gen Cert.KernelIdeal.Hyst
open Idealize.ShloMosaic

variable {F : FTy → Type} [FloatOps F]

/-- The bit of a packed table for an image row and column. -/
def tabBit (T : IVec S16x512 32) (i n : Nat) : Prop :=
  n < 512 ∧ (T (ix2 (Fin.ofNat 16 (n / 32)) (Fin.ofNat 512 i))).getLsbD (n % 32) = true

/-- A row of a table. -/
theorem tabRow_word (T : IVec S16x512 32) (i k : Nat) (hi : i < 512) :
    col3 (tabRow T i) k = T (ix2 (Fin.ofNat 16 k) (Fin.ofNat 512 i)) := by
  unfold col3 tabRow Cert.KernelIdeal.Hyst.colOf
  pointwise
  refine congrArg T (congrArg (ix2 (Fin.ofNat 16 k)) (Fin.ext ?_))
  have : (Fin.ofNat 512 i).val = i := Nat.mod_eq_of_lt hi
  rw [this]
  show 511 - (511 - i) = i
  omega

/-- The bits of a row of a table. -/
theorem tabRow_bits (T : IVec S16x512 32) (i n : Nat) (hi : i < 512) (hn : n < 512) :
    bitsOf (col3 (tabRow T i)) n ↔ tabBit T i n := by
  unfold bitsOf tabBit
  rw [tabRow_word T i _ hi]
  exact (and_iff_right hn).symm

/-- The promoted words after some rows are the scan's row. -/
theorem prom_bits (W D : IVec S16x512 32) (i : Nat) (hi : i ≤ 512) (n : Nat) :
    (n < 512 ∧ bitsOf (col (prom (F := F) (tabRow W) (tabRow D) i)) n) ↔ promo (tabBit W) (tabBit D) i n := by
  induction i generalizing n with
  | zero =>
    constructor
    · rintro ⟨_, h⟩
      exact absurd (show (0#32).getLsbD (n % 32) = true from h) (by simp)
    · exact False.elim
  | succ i ih =>
    have ih := ih (by omega)
    by_cases hn : n < 512
    · rw [and_iff_right hn]
      have e : bitsOf (col (prom (F := F) (tabRow W) (tabRow D) (i + 1))) n
          ↔ bitsOf (rowWords (col3 (tabRow W i)) (col (prom (F := F) (tabRow W) (tabRow D) i)) (col3 (tabRow D i))) n := by
        unfold bitsOf
        have := rowStep_words (F := F) (tabRow W i) (tabRow D i) (prom (F := F) (tabRow W) (tabRow D) i) ⟨n / 32, by omega⟩
        have e : col (prom (F := F) (tabRow W) (tabRow D) (i + 1)) (n / 32)
            = rowStep (F := F) (tabRow W i) (tabRow D i) (prom (F := F) (tabRow W) (tabRow D) i) (ix2 ⟨n / 32, by omega⟩ 0) :=
          congrArg (fun k => rowStep (F := F) (tabRow W i) (tabRow D i) (prom (F := F) (tabRow W) (tabRow D) i) (ix2 k 0))
            (Fin.ext (Nat.mod_eq_of_lt (by omega)))
        rw [e, this]
      rw [e, rowWords_rowP _ _ _ n hn]
      exact rowP_congr 512 (fun j hj => tabRow_bits W i j (by omega) hj) (fun j hj _ => tabRow_bits D i j (by omega) hj)
        (fun j _ => ih j) n hn
    · exact ⟨fun h => absurd h.1 hn, fun h => absurd (promo_weak h).1 hn⟩

end Cert.Hyst
-- ==== Proof.KernelJoin.lean ====
/- The promoted rows side by side: the packed word of an image row and a block of columns. -/
module

public import proofs.«01_k».proof.Proof.KernelScan

@[expose] public section

set_option maxRecDepth 16384

noncomputable section

namespace Cert.Hyst

open Cert.KernelIdeal Cert.KernelIdeal.Gen Cert.KernelIdeal.Hyst
open Idealize.ShloMosaic

variable {F : FTy → Type} [FloatOps F]

/-- The blocks of the last rows, as a list over the row number. -/
theorem blocks_eq (r : Nat → IVec S1x16x1 32) (n : Nat) (hn : n ≤ 512) : Cols.blocks n (colsFrom r n)
    = List.ofFn fun i : Fin n => (⟨S16x1, shapeCast S16x1 (r (512 - n + i)) shapeCasts_S1x16x1_S16x1⟩ : (s : Shape) × (s.Idx → BitVec 32)) := by
  induction n with
  | zero => rfl
  | succ n ih =>
    rw [List.ofFn_succ]
    show ⟨S16x1, shapeCast S16x1 (r (511 - n)) shapeCasts_S1x16x1_S16x1⟩ :: Cols.blocks n (colsFrom r n) = _
    rw [ih (by omega)]
    refine congrArg₂ List.cons ?_ (congrArg List.ofFn (funext fun i => ?_))
    · rw [show 512 - (n + 1) + (0 : Fin (n + 1)).val = 511 - n by show 512 - (n + 1) + 0 = _; omega]
    · rw [show 512 - (n + 1) + i.succ.val = 512 - n + i.val by rw [Fin.val_succ]; omega]

/-- The same blocks joined, from an equal list. -/
theorem concatenate_congr {L L' : List ((s : Shape) × (s.Idx → BitVec 32))} (e : L = L') (h : Shape.Concatenates (L.map (·.1)) S16x512 1)
    (h' : Shape.Concatenates (L'.map (·.1)) S16x512 1) : concatenate S16x512 1 L h = concatenate S16x512 1 L' h' := by
  subst e
  rfl

/-- The joined rows at an image row and a word. -/
theorem joined_word (r : Nat → IVec S1x16x1 32) (i : Fin 512) (k : Fin 16) : joined (colsFrom r 512) (ix2 i k) = r i (ix3 0 k 0) := by
  unfold joined
  have e := blocks_eq r 512 le_rfl
  rw [concatenate_congr e (Cols.concat (colsFrom r 512)) (e ▸ Cols.concat (colsFrom r 512))]
  pointwise

/-- The bits of the joined promoted rows. -/
theorem joined_bits (x : Vec F S512x512 .f32) (i j : Fin 512) :
    (joined (colsFrom (promRow x) 512) (ix2 i ⟨j / 32, by omega⟩)).getLsbD (j % 32) = true
      ↔ promo (tabBit (weakTab x)) (tabBit (nearTab x)) (i + 1) j := by
  rw [joined_word, ← prom_bits (F := F) _ _ (i + 1) (by omega) j, and_iff_right j.isLt]
  unfold promRow bitsOf col
  pointwise
  rw [show Fin.ofNat 16 (j.val / 32) = ⟨j.val / 32, by omega⟩ from Fin.ext (Nat.mod_eq_of_lt (by omega))]

end Cert.Hyst
-- ==== Proof.Numbers.lean ====
/- Whole numbers as words and as floats: quotients, remainders, and the exact passage through a float. -/
module

public import proofs.«01_k».proof.Proof.KernelJoin
import Idealize.ShloMosaic.Lib.Pointwise
public import Idealize.ShloMosaic.Lib.Routing.Words

@[expose] public section

namespace Cert.Hyst

open Idealize.ShloMosaic

/-- A word of a number below `2 ^ 31` is not negative. -/
theorem not_neg (n : Nat) (hn : n < 2 ^ 31) : IntOp.cmpi .slt (BitVec.ofNat 32 n) 0#32 = 0#1 := by
  show BitVec.ofBool ((BitVec.ofNat 32 n).slt 0#32) = _
  have : (BitVec.ofNat 32 n).slt 0#32 = false := by
    rw [BitVec.slt, StableHlo.Predicate.toInt_ofNat_small n hn]
    exact decide_eq_false (by show ¬ ((n : Int) < 0); omega)
  rw [this]; rfl

/-- A word of a positive number below `2 ^ 31` is positive. -/
theorem pos_word (n : Nat) (h0 : 0 < n) (hn : n < 2 ^ 31) : IntOp.cmpi .sgt (BitVec.ofNat 32 n) 0#32 = 1#1 := by
  show BitVec.ofBool (BitVec.slt 0#32 (BitVec.ofNat 32 n)) = _
  have : BitVec.slt 0#32 (BitVec.ofNat 32 n) = true := by
    rw [BitVec.slt, StableHlo.Predicate.toInt_ofNat_small n hn]
    exact decide_eq_true (by show (0 : Int) < n; omega)
  rw [this]; rfl

/-- The remainder made non-negative, of a number that is not negative, is the plain remainder. -/
theorem mod_word (n b : Nat) (hn : n < 2 ^ 31) (h0 : 0 < b) (hb : b < 2 ^ 31) :
    Scalar.select (IntOp.andi (IntOp.xori (IntOp.cmpi .slt (IntOp.remsi .vector (BitVec.ofNat 32 n) (BitVec.ofNat 32 b)) 0#32)
        (Scalar.cmpi .slt (BitVec.ofNat 32 b) 0#32))
        (IntOp.cmpi .ne (IntOp.remsi .vector (BitVec.ofNat 32 n) (BitVec.ofNat 32 b)) 0#32))
      (IntOp.addi (IntOp.remsi .vector (BitVec.ofNat 32 n) (BitVec.ofNat 32 b)) (BitVec.ofNat 32 b))
      (IntOp.remsi .vector (BitVec.ofNat 32 n) (BitVec.ofNat 32 b)) = BitVec.ofNat 32 (n % b) := by
  rw [Routing.remsi_word .vector hn h0 hb, not_neg (n % b) (lt_of_le_of_lt (Nat.mod_le _ _) hn),
    show Scalar.cmpi .slt (BitVec.ofNat 32 b) 0#32 = 0#1 from not_neg b hb]
  generalize IntOp.cmpi .ne (BitVec.ofNat 32 (n % b)) 0#32 = t
  have : IntOp.andi (IntOp.xori 0#1 0#1) t = 0#1 := by
    show (0#1 ^^^ 0#1) &&& t = 0#1
    simp
  rw [this]; rfl

/-- The quotient rounded down, of a number that is not negative, is the plain quotient. -/
theorem div_word (n b : Nat) (hn : n < 2 ^ 31) (h0 : 0 < b) (hb : b < 2 ^ 31) :
    Scalar.select (IntOp.andi
        (IntOp.cmpi .ne (IntOp.subi (BitVec.setWidth 32 (IntOp.cmpi .sgt (BitVec.ofNat 32 n) 0#32))
            (BitVec.setWidth 32 (IntOp.cmpi .slt (BitVec.ofNat 32 n) 0#32)))
          (Scalar.subi (Scalar.extui (Scalar.cmpi .sgt (BitVec.ofNat 32 b) 0#32))
            (Scalar.extui (Scalar.cmpi .slt (BitVec.ofNat 32 b) 0#32))))
        (IntOp.cmpi .ne (IntOp.remsi .vector (BitVec.ofNat 32 n) (BitVec.ofNat 32 b)) 0#32))
      (IntOp.subi (IntOp.divsi .vector (BitVec.ofNat 32 n) (BitVec.ofNat 32 b)) 1#32)
      (IntOp.divsi .vector (BitVec.ofNat 32 n) (BitVec.ofNat 32 b)) = BitVec.ofNat 32 (n / b) := by
  rw [Routing.remsi_word .vector hn h0 hb, Routing.divsi_word .vector hn h0 hb, not_neg n hn,
    show Scalar.cmpi .slt (BitVec.ofNat 32 b) 0#32 = 0#1 from not_neg b hb,
    show Scalar.cmpi .sgt (BitVec.ofNat 32 b) 0#32 = 1#1 from pos_word b h0 hb]
  rcases Nat.eq_zero_or_pos n with rfl | h
  · rw [Nat.zero_mod]; rfl
  · rw [pos_word n h hn]
    generalize IntOp.cmpi .ne (BitVec.ofNat 32 (n % b)) 0#32 = t
    have : IntOp.andi (IntOp.cmpi .ne (IntOp.subi (BitVec.setWidth 32 1#1) (BitVec.setWidth 32 0#1))
        (Scalar.subi (Scalar.extui 1#1) (Scalar.extui 0#1))) t = 0#1 := by
      show 0#1 &&& t = 0#1
      simp
    rw [this]; rfl

/-- Two words of numbers below `2 ^ 32` are equal as the numbers are. -/
theorem eq_word (a b : Nat) (ha : a < 2 ^ 32) (hb : b < 2 ^ 32) :
    IntOp.cmpi .eq (BitVec.ofNat 32 a) (BitVec.ofNat 32 b) = if a = b then 1#1 else 0#1 := by
  by_cases h : a = b
  · subst h
    rw [if_pos rfl]
    show BitVec.ofBool (BitVec.ofNat 32 a == BitVec.ofNat 32 a) = _
    rw [beq_self_eq_true]; rfl
  · rw [if_neg h]
    show BitVec.ofBool (BitVec.ofNat 32 a == BitVec.ofNat 32 b) = _
    rw [beq_false_of_ne fun e => h ?_]; · rfl
    have := congrArg BitVec.toNat e
    rwa [BitVec.toNat_ofNat, BitVec.toNat_ofNat, Nat.mod_eq_of_lt ha, Nat.mod_eq_of_lt hb] at this

/-- A word below `2 ^ 31` as a float is its number. -/
theorem float_word {φ : FTy} (n : Nat) (hn : n < 2 ^ 31) :
    FloatOps.sitofp (F := Ideal) φ (BitVec.ofNat 32 n) = ((n : ℝ) : EReal) := by
  show (((BitVec.ofNat 32 n).toInt : ℝ) : EReal) = _
  rw [StableHlo.Predicate.toInt_ofNat_small n hn]
  norm_cast

/-- A whole float below `2 ^ 31` as a word is its number. -/
theorem word_float (n : Nat) (hn : n < 2 ^ 31) : Ideal.fptosi 32 ((n : ℝ) : EReal) = BitVec.ofNat 32 n := by
  rw [Ideal.fptosi, Ideal.toIntClamped_coe, if_pos (Nat.cast_nonneg n), Int.floor_natCast, min_eq_right, max_eq_right]
  · exact BitVec.ofInt_natCast _ _
  · omega
  · omega

/-- A sum of whole floats is the float of the sum. -/
theorem sum_float {ι : Type} [Fintype ι] (f : ι → Nat) : ∑ i, ((f i : ℝ) : EReal) = (((∑ i, f i : Nat) : ℝ) : EReal) := by
  classical
  induction (Finset.univ : Finset ι) using Finset.induction_on with
  | empty => simp
  | insert a s ha ih => rw [Finset.sum_insert ha, Finset.sum_insert ha, ih, Nat.cast_add, EReal.coe_add]

/-- A product of whole floats is the float of the product. -/
theorem mul_float (a b : Nat) : ((a : ℝ) : EReal) * ((b : ℝ) : EReal) = (((a * b : Nat) : ℝ) : EReal) := by
  rw [Nat.cast_mul, EReal.coe_mul]

end Cert.Hyst
-- ==== Proof.Packing.lean ====
/- Packing truth values into a number by their powers of two. -/
module

public import proofs.«01_k».proof.Proof.Numbers

@[expose] public section

namespace Cert.Hyst

open Idealize.ShloMosaic
open scoped Classical

/-- The number whose first `n` bits are the truth values of `q`. -/
noncomputable def bits (q : Nat → Prop) (n : Nat) : Nat := ∑ b ∈ Finset.range n, if q b then 2 ^ b else 0

/-- It fits in `n` bits. -/
theorem bits_lt (q : Nat → Prop) (n : Nat) : bits q n < 2 ^ n := by
  induction n with
  | zero => exact Nat.one_pos
  | succ n ih =>
    rw [bits, Finset.sum_range_succ, ← bits, pow_succ]
    split <;> omega

/-- Its bit `b` is the truth value `q b`. -/
theorem testBit_bits (q : Nat → Prop) (n b : Nat) : (bits q n).testBit b = true ↔ b < n ∧ q b := by
  induction n with
  | zero => simp [bits]
  | succ n ih =>
    rw [bits, Finset.sum_range_succ, ← bits]
    rcases Nat.lt_trichotomy b n with h | rfl | h
    · have e : (bits q n + if q n then 2 ^ n else 0).testBit b = (bits q n).testBit b := by
        split
        · rw [Nat.add_comm]; exact Nat.testBit_two_pow_add_gt h _
        · rfl
      rw [e, ih]
      exact ⟨fun a => ⟨by omega, a.2⟩, fun a => ⟨h, a.2⟩⟩
    · have hz : (bits q b).testBit b = false := Nat.testBit_lt_two_pow (bits_lt q b)
      by_cases hq : q b
      · rw [if_pos hq, Nat.add_comm, Nat.testBit_two_pow_add_eq, hz]
        exact ⟨fun _ => ⟨by omega, hq⟩, fun _ => rfl⟩
      · rw [if_neg hq, Nat.add_zero, hz]
        exact ⟨fun a => absurd a (by decide), fun a => absurd a.2 hq⟩
    · have hl : (bits q n + if q n then 2 ^ n else 0) < 2 ^ b := by
        have h1 := bits_lt q n
        have h2 : 2 ^ (n + 1) ≤ 2 ^ b := Nat.pow_le_pow_right (by decide) h
        rw [pow_succ] at h2
        split <;> omega
      rw [Nat.testBit_lt_two_pow hl]
      exact ⟨fun a => absurd a (by decide), fun a => absurd a.1 (by omega)⟩

/-- A sum over `m K` numbers, by blocks of `m`. -/
theorem sum_blocks (f : Nat → Nat) (m K : Nat) :
    ∑ j ∈ Finset.range (m * K), f j = ∑ k ∈ Finset.range K, ∑ b ∈ Finset.range m, f (m * k + b) := by
  induction K with
  | zero => simp
  | succ K ih => rw [Finset.sum_range_succ, ← ih, Nat.mul_succ, Finset.sum_range_add]

/-- A sum over 512 numbers that counts only block `k` of 32, in two halves. -/
theorem sum_block (f : Nat → Nat) (k : Nat) (hk : k < 16) (h : ∀ j, j / 32 ≠ k → f j = 0) :
    ∑ j : Fin 512, f j = ∑ b ∈ Finset.range 16, f (32 * k + b) + ∑ b ∈ Finset.range 16, f (32 * k + (16 + b)) := by
  refine Eq.trans ?_ (Finset.sum_range_add (fun b => f (32 * k + b)) 16 16)
  rw [Finset.sum_fin_eq_sum_range]
  refine (Finset.sum_congr rfl fun j hj => dif_pos (Finset.mem_range.mp hj)).trans ?_
  refine (sum_blocks f 32 16).trans (Finset.sum_eq_single k (fun k' _ hk' => Finset.sum_eq_zero fun b hb => h _ ?_) fun h' => ?_)
  · have := Finset.mem_range.mp hb; omega
  · exact absurd (Finset.mem_range.mpr hk) h'

/-- The weight of column `j` in the low half of word `k`. -/
def lowW (k j : Nat) : Nat := if j / 32 = k ∧ j % 32 < 16 then 2 ^ (j % 32) else 0

/-- The weight of column `j` in the high half of word `k`. -/
def highW (k j : Nat) : Nat := if j / 32 = k ∧ 16 ≤ j % 32 then 2 ^ (j % 32 - 16) else 0

/-- The truth value as a number. -/
noncomputable def truth (p : Prop) : Nat := if p then 1 else 0

/-- A truth times a power is the power or nothing. -/
theorem truth_mul (p : Prop) (n : Nat) : truth p * n = if p then n else 0 := by
  unfold truth; split <;> simp

/-- The low half word of block `k` of a row of truth values. -/
theorem sum_low (p : Nat → Prop) (k : Nat) (hk : k < 16) :
    ∑ j : Fin 512, truth (p j) * lowW k j = bits (fun b => p (32 * k + b)) 16 := by
  refine (sum_block (fun j => truth (p j) * lowW k j) k hk fun j hj => ?_).trans ?_
  · rw [lowW, if_neg (show ¬ (j / 32 = k ∧ j % 32 < 16) from fun a => hj a.1), Nat.mul_zero]
  · have h2 : ∀ b ∈ Finset.range 16, truth (p (32 * k + (16 + b))) * lowW k (32 * k + (16 + b)) = 0 := fun b hb => by
      have := Finset.mem_range.mp hb
      rw [lowW, if_neg (by omega), Nat.mul_zero]
    rw [Finset.sum_eq_zero h2, Nat.add_zero, bits]
    refine Finset.sum_congr rfl fun b hb => ?_
    have := Finset.mem_range.mp hb
    rw [truth_mul, lowW, if_pos (show (32 * k + b) / 32 = k ∧ (32 * k + b) % 32 < 16 by omega), show (32 * k + b) % 32 = b by omega]

/-- The high half word of block `k` of a row of truth values. -/
theorem sum_high (p : Nat → Prop) (k : Nat) (hk : k < 16) :
    ∑ j : Fin 512, truth (p j) * highW k j = bits (fun b => p (32 * k + (16 + b))) 16 := by
  refine (sum_block (fun j => truth (p j) * highW k j) k hk fun j hj => ?_).trans ?_
  · rw [highW, if_neg (show ¬ (j / 32 = k ∧ 16 ≤ j % 32) from fun a => hj a.1), Nat.mul_zero]
  · have h2 : ∀ b ∈ Finset.range 16, truth (p (32 * k + b)) * highW k (32 * k + b) = 0 := fun b hb => by
      have := Finset.mem_range.mp hb
      rw [highW, if_neg (by omega), Nat.mul_zero]
    rw [Finset.sum_eq_zero h2, Nat.zero_add, bits]
    refine Finset.sum_congr rfl fun b hb => ?_
    have := Finset.mem_range.mp hb
    rw [truth_mul, highW, if_pos (show (32 * k + (16 + b)) / 32 = k ∧ 16 ≤ (32 * k + (16 + b)) % 32 by omega),
      show (32 * k + (16 + b)) % 32 - 16 = b by omega]

/-- The two half words joined: bit `b` is truth value `32 k + b`. -/
theorem joined_halves (p : Nat → Prop) (k b : Nat) (hb : b < 32) :
    (BitVec.ofNat 32 (bits (fun b => p (32 * k + b)) 16) ||| BitVec.ofNat 32 (bits (fun b => p (32 * k + (16 + b))) 16) <<< 16).getLsbD b
      = true ↔ p (32 * k + b) := by
  rw [BitVec.getLsbD_or, BitVec.getLsbD_shiftLeft, BitVec.getLsbD_ofNat, BitVec.getLsbD_ofNat, decide_eq_true hb, Bool.or_eq_true]
  simp only [Bool.true_and, Bool.and_eq_true, testBit_bits, Bool.not_eq_true', decide_eq_false_iff_not, decide_eq_true_eq]
  rcases Nat.lt_or_ge b 16 with h | h
  · exact ⟨fun a => a.elim (·.2) (fun a => absurd h a.1), fun a => .inl ⟨h, a⟩⟩
  · rw [show 16 + (b - 16) = b by omega]
    exact ⟨fun a => a.elim (fun a => absurd a.1 (by omega)) (·.2.2.2), fun a => .inr ⟨by omega, by omega, by omega, a⟩⟩

end Cert.Hyst
-- ==== Proof.KernelPack.lean ====
/- The packed words of a 0/1 image: each word holds 32 pixels of a row. -/
module

public import proofs.«01_k».proof.Proof.Packing

@[expose] public section

set_option maxRecDepth 16384

noncomputable section

namespace Cert.Hyst

open Cert.KernelIdeal Cert.KernelIdeal.Gen Cert.KernelIdeal.Hyst
open Idealize.ShloMosaic

/-- A power of two by shifting. -/
theorem shl_one (n : Nat) (hn : n < 32) : IntOp.shli .vector 1#32 (BitVec.ofNat 32 n) = BitVec.ofNat 32 (2 ^ n) := by
  have : (BitVec.ofNat 32 n).toNat = n := by rw [BitVec.toNat_ofNat]; omega
  show (if (BitVec.ofNat 32 n).toNat < 32 then 1#32 <<< BitVec.ofNat 32 n else _) = _
  rw [this, if_pos hn]
  apply BitVec.eq_of_toNat_eq
  rw [BitVec.shiftLeft_eq', this, BitVec.toNat_shiftLeft, BitVec.toNat_ofNat, BitVec.toNat_ofNat, Nat.shiftLeft_eq, Nat.mod_eq_of_lt (by decide : 1 < 2 ^ 32), Nat.one_mul]

/-- The comparison of two words below `2 ^ 31`. -/
theorem lt_word (a b : Nat) (ha : a < 2 ^ 31) (hb : b < 2 ^ 31) :
    IntOp.cmpi .slt (BitVec.ofNat 32 a) (BitVec.ofNat 32 b) = if a < b then 1#1 else 0#1 := by
  show BitVec.ofBool (BitVec.slt _ _) = _
  rw [BitVec.slt, StableHlo.Predicate.toInt_ofNat_small a ha, StableHlo.Predicate.toInt_ofNat_small b hb]
  by_cases h : a < b
  · rw [if_pos h, decide_eq_true (by omega)]; rfl
  · rw [if_neg h, decide_eq_false (by omega)]; rfl

/-- The comparison of two words below `2 ^ 31`, the other way. -/
theorem ge_word (a b : Nat) (ha : a < 2 ^ 31) (hb : b < 2 ^ 31) :
    IntOp.cmpi .sge (BitVec.ofNat 32 a) (BitVec.ofNat 32 b) = if b ≤ a then 1#1 else 0#1 := by
  show BitVec.ofBool (BitVec.sle _ _) = _
  rw [BitVec.sle, StableHlo.Predicate.toInt_ofNat_small a ha, StableHlo.Predicate.toInt_ofNat_small b hb]
  by_cases h : b ≤ a
  · rw [if_pos h, decide_eq_true (by omega)]; rfl
  · rw [if_neg h, decide_eq_false (by omega)]; rfl

/-- The column's place inside its word. -/
theorem place (j : Fin 512) (k : Fin 16) :
    k0_pay25 (iota .tc S512x16 32 [0] iota_S512x16_d0_w32) (ix2 j k) = BitVec.ofNat 32 (j.val % 32) := by
  unfold k0_pay25
  pointwise
  exact mod_word j.val 32 (by omega) (by decide) (by decide)

/-- Whether a column lies in a word. -/
theorem inWord (j : Fin 512) (k : Fin 16) :
    k0_pay24 (iota .tc S512x16 32 [0] iota_S512x16_d0_w32) (iota .tc S512x16 32 [1] iota_S512x16_d1_w32) 32#32
      k0_pay22 k0_pay23 (Scalar.extui (Scalar.cmpi .sgt 32#32 0#32)) 0#32 (ix2 j k) = if j.val / 32 = k.val then 1#1 else 0#1 := by
  unfold k0_pay24 k0_pay22 k0_pay23
  pointwise
  refine (congrArg (fun t => IntOp.cmpi .eq t (BitVec.ofNat 32 k.val)) (div_word j.val 32 (by omega) (by decide) (by decide))).trans ?_
  exact eq_word _ _ (by omega) (by omega)

/-- A choice between two whole numbers under two conditions. -/
theorem pick (p q : Prop) [Decidable p] [Decidable q] (a : Nat) :
    Scalar.select (IntOp.andi (if p then 1#1 else 0#1) (if q then 1#1 else 0#1)) (BitVec.ofNat 32 a) 0#32
      = BitVec.ofNat 32 (if p ∧ q then a else 0) := by
  by_cases hp : p <;> by_cases hq : q
  · rw [if_pos hp, if_pos hq, if_pos ⟨hp, hq⟩]; rfl
  all_goals
    rw [if_neg (show ¬ (p ∧ q) from fun a => by first | exact hp a.1 | exact hq a.2)]
    first | rw [if_pos hp] | rw [if_neg hp]
    first | rw [if_pos hq] | rw [if_neg hq]
    rfl

/-- The weights of the low half words. -/
theorem weight_low (j : Fin 512) (k : Fin 16) : weightLo (F := Ideal) (ix2 j k) = ((lowW k.val j.val : ℝ) : EReal) := by
  have e : weightLo (F := Ideal) (ix2 j k) = FloatOps.sitofp (F := Ideal) .bf16 (Scalar.select (IntOp.andi
      (k0_pay24 (iota .tc S512x16 32 [0] iota_S512x16_d0_w32) (iota .tc S512x16 32 [1] iota_S512x16_d1_w32) 32#32
        k0_pay22 k0_pay23 (Scalar.extui (Scalar.cmpi .sgt 32#32 0#32)) 0#32 (ix2 j k))
      (IntOp.cmpi .slt (k0_pay25 (iota .tc S512x16 32 [0] iota_S512x16_d0_w32) (ix2 j k)) 16#32))
      (IntOp.shli .vector 1#32 (k0_pay25 (iota .tc S512x16 32 [0] iota_S512x16_d0_w32) (ix2 j k))) 0#32) := rfl
  rw [e, inWord, place, lt_word _ 16 (by omega) (by decide), shl_one _ (Nat.mod_lt _ (by decide)), pick]
  refine float_word (lowW k.val j.val) ?_
  unfold lowW
  split
  · exact lt_of_le_of_lt (Nat.pow_le_pow_right (by decide) (by omega : j.val % 32 ≤ 16)) (by decide)
  · decide

/-- The weights of the high half words. -/
theorem weight_high (j : Fin 512) (k : Fin 16) :
    k0_pay29 (F := Ideal) maskHi powHi 0#32 (ix2 j k) = ((highW k.val j.val : ℝ) : EReal) := by
  have e : k0_pay29 (F := Ideal) maskHi powHi 0#32 (ix2 j k) = FloatOps.sitofp (F := Ideal) .bf16 (Scalar.select (IntOp.andi
      (k0_pay24 (iota .tc S512x16 32 [0] iota_S512x16_d0_w32) (iota .tc S512x16 32 [1] iota_S512x16_d1_w32) 32#32
        k0_pay22 k0_pay23 (Scalar.extui (Scalar.cmpi .sgt 32#32 0#32)) 0#32 (ix2 j k))
      (IntOp.cmpi .sge (k0_pay25 (iota .tc S512x16 32 [0] iota_S512x16_d0_w32) (ix2 j k)) 16#32))
      (IntOp.shli .vector 1#32 (IntOp.subi (k0_pay25 (iota .tc S512x16 32 [0] iota_S512x16_d0_w32) (ix2 j k)) 16#32)) 0#32) := rfl
  rw [e, inWord, place, ge_word _ 16 (by omega) (by decide)]
  by_cases h : 16 ≤ j.val % 32
  · rw [show IntOp.subi (BitVec.ofNat 32 (j.val % 32)) 16#32 = BitVec.ofNat 32 (j.val % 32 - 16) from ?_,
      shl_one _ (by omega), pick]
    · refine float_word (highW k.val j.val) ?_
      unfold highW
      split
      · exact lt_of_le_of_lt (Nat.pow_le_pow_right (by decide) (by omega : j.val % 32 - 16 ≤ 16)) (by decide)
      · decide
    · apply BitVec.eq_of_toNat_eq
      show (BitVec.ofNat 32 (j.val % 32) - 16#32).toNat = _
      rw [BitVec.toNat_sub, BitVec.toNat_ofNat, BitVec.toNat_ofNat, BitVec.toNat_ofNat]
      omega
  · rw [if_neg h, highW, if_neg (show ¬ (j.val / 32 = k.val ∧ 16 ≤ j.val % 32) from fun a => h a.2)]
    have : ∀ t : BitVec 1, IntOp.andi t 0#1 = 0#1 := fun t => by show t &&& 0#1 = 0#1; simp
    rw [this]
    exact float_word 0 (by decide)

/-- A 0/1 image packed: the word of row `i` and block `k` is the two half words joined. -/
theorem packed_word (V : FVec Ideal S512x512 .f32) (p : Nat → Nat → Prop)
    (hV : ∀ i j : Fin 512, V (ix2 i j) = ((truth (p i j) : ℝ) : EReal)) (i : Fin 512) (k : Fin 16) :
    k0_pay30 V weightLo maskHi powHi 0#32 (ix2 i k)
      = BitVec.ofNat 32 (bits (fun b => p i (32 * k + b)) 16) ||| BitVec.ofNat 32 (bits (fun b => p i (32 * k + (16 + b))) 16) <<< 16 := by
  have hw := weight_low
  have hh := weight_high
  unfold k0_pay30
  revert hw hh
  generalize weightLo (F := Ideal) = W
  generalize k0_pay29 (F := Ideal) maskHi powHi 0#32 = H
  intro hw hh
  pointwise
  have s1 : ∑ j : Fin 512, V (ix2 i j) * W (ix2 j k) = ((bits (fun b => p i (32 * k + b)) 16 : ℝ) : EReal) := by
    rw [← sum_low (p i) k k.isLt, ← sum_float]
    exact Finset.sum_congr rfl fun j _ => by rw [hV, hw, mul_float]
  have s2 : ∑ j : Fin 512, V (ix2 i j) * H (ix2 j k) = ((bits (fun b => p i (32 * k + (16 + b))) 16 : ℝ) : EReal) := by
    rw [← sum_high (p i) k k.isLt, ← sum_float]
    exact Finset.sum_congr rfl fun j _ => by rw [hV, hh, mul_float]
  have b1 := lt_trans (bits_lt (fun b => p i (32 * k + b)) 16) (by decide : 2 ^ 16 < 2 ^ 31)
  have b2 := lt_trans (bits_lt (fun b => p i (32 * k + (16 + b))) 16) (by decide : 2 ^ 16 < 2 ^ 31)
  refine congrArg₂ IntOp.ori ((congrArg (Ideal.fptosi 32) s1).trans (word_float _ b1)) ?_
  exact congrArg (fun t => IntOp.shli .vector t 16#32) ((congrArg (Ideal.fptosi 32) s2).trans (word_float _ b2))

/-- Bit `b` of the word of row `i` and block `k` is the pixel at column `32 k + b`. -/
theorem packed_bit (V : FVec Ideal S512x512 .f32) (p : Nat → Nat → Prop)
    (hV : ∀ i j : Fin 512, V (ix2 i j) = ((truth (p i j) : ℝ) : EReal)) (i : Fin 512) (k : Fin 16) (b : Nat) (hb : b < 32) :
    (k0_pay30 V weightLo maskHi powHi 0#32 (ix2 i k)).getLsbD b = true ↔ p i (32 * k + b) := by
  rw [packed_word V p hV]
  exact joined_halves (p i) k b hb

/-- A flag as a word and then as a float. -/
theorem flag_float (c : BitVec 1) (φ : FTy) :
    FloatOps.sitofp (F := Ideal) φ (BitVec.setWidth 32 c) = ((truth (c = 1#1) : ℝ) : EReal) := by
  unfold truth
  by_cases h : c = 1#1
  · rw [if_pos h, h]; exact float_word 1 (by decide)
  · rw [if_neg h, show c = 0#1 from by
      rcases BitVec.eq_zero_or_eq_one c with e | e
      · exact e
      · exact absurd e h]
    exact float_word 0 (by decide)

end Cert.Hyst
-- ==== Proof.KernelNear.lean ====
/- The strong neighbours of a pixel, read off the packed rows. -/
module

public import proofs.«01_k».proof.Proof.KernelPack

@[expose] public section

set_option maxRecDepth 16384

noncomputable section

namespace Cert.Hyst

open Cert.KernelIdeal Cert.KernelIdeal.Gen Cert.KernelIdeal.Hyst
open Idealize.ShloMosaic

/-- The words around a word of the strong pixels: the neighbours in the row, the row above and the row below. -/
def around (S : IVec S512x16 32) : IVec S512x16 32 :=
  have l := ori (shli S (broadcast S512x16 1#32)) (shrui (concatenate S512x16 1 [⟨S512x1, broadcast S512x1 0#32⟩,
    ⟨S512x15, extractStridedSlice S512x15 ![0, 0] S slices_S512x16_o0_0_S512x15⟩] concatenates_S512x1_S512x15_S512x16_d1)
    (broadcast S512x16 31#32))
  have r := ori (shrui S (broadcast S512x16 1#32)) (shli (concatenate S512x16 1 [
    ⟨S512x15, extractStridedSlice S512x15 ![0, 1] S slices_S512x16_o0_1_S512x15⟩, ⟨S512x1, broadcast S512x1 0#32⟩] concatenates_S512x15_S512x1_S512x16_d1)
    (broadcast S512x16 31#32))
  have a := ori (ori S l) r
  ori (ori (ori l r) (concatenate S512x16 0 [⟨S1x16, broadcast S1x16 0#32⟩,
    ⟨S511x16, extractStridedSlice S511x16 ![0, 0] a slices_S512x16_o0_0_S511x16⟩] concatenates_S1x16_S511x16_S512x16_d0))
    (concatenate S512x16 0 [⟨S511x16, extractStridedSlice S511x16 ![1, 0] a slices_S512x16_o1_0_S511x16⟩,
      ⟨S1x16, broadcast S1x16 0#32⟩] concatenates_S511x16_S1x16_S512x16_d0)

/-- The second table packs the strong pixels and then gathers the words around. -/
theorem near_around (V : FVec Ideal S512x512 .f32) :
    k0_pay31 V weightLo maskHi powHi 0#32 = around (k0_pay30 V weightLo maskHi powHi 0#32) := rfl

/-- The packed words of image row `i`. -/
def rowN (S : IVec S512x16 32) (i k : Nat) : BitVec 32 := S (ix2 (Fin.ofNat 512 i) (Fin.ofNat 16 k))

/-- A row moved by one column to the right. -/
def lf (p : Nat → BitVec 32) (k : Nat) : BitVec 32 := p k <<< 1 ||| down 1 p k >>> 31

/-- A row moved by one column to the left. -/
def rt (p : Nat → BitVec 32) (k : Nat) : BitVec 32 := p k >>> 1 ||| up p k <<< 31

/-- A row together with its two moved copies. -/
def al (p : Nat → BitVec 32) (k : Nat) : BitVec 32 := (p k ||| lf p k) ||| rt p k

/-- A word of the table is the word of its row. -/
theorem word_eq (S : IVec S512x16 32) (i : Fin 512) (k : Fin 16) : S (ix2 i k) = rowN S i.val k.val := by
  unfold rowN
  rw [show Fin.ofNat 512 i.val = i from Fin.ext (Nat.mod_eq_of_lt i.isLt), show Fin.ofNat 16 k.val = k from Fin.ext (Nat.mod_eq_of_lt k.isLt)]

/-- The row moved right, at a word. -/
theorem lf_eq (S : IVec S512x16 32) (i : Fin 512) (k : Fin 16) :
    IntOp.ori (IntOp.shli .vector (S (ix2 i k)) 1#32)
      (IntOp.shrui .vector (if h : k.val < 1 then 0#32 else S (ix2 i ⟨k.val - 1, by omega⟩)) 31#32) = lf (rowN S i.val) k.val := by
  unfold lf down
  rw [word_eq S i k]
  by_cases h : k.val < 1
  · rw [dif_pos h, if_pos h]; rfl
  · rw [dif_neg h, if_neg h, word_eq S i ⟨k.val - 1, by omega⟩]; rfl

/-- The row moved left, at a word. -/
theorem rt_eq (S : IVec S512x16 32) (i : Fin 512) (k : Fin 16) :
    IntOp.ori (IntOp.shrui .vector (S (ix2 i k)) 1#32)
      (IntOp.shli .vector (if h : k.val < 15 then S (ix2 i ⟨1 + k.val, by omega⟩) else 0#32) 31#32) = rt (rowN S i.val) k.val := by
  unfold rt up
  rw [word_eq S i k]
  by_cases h : k.val < 15
  · rw [dif_pos h, if_pos h, word_eq S i ⟨1 + k.val, by omega⟩, show k.val + 1 = 1 + k.val from Nat.add_comm _ _]; rfl
  · rw [dif_neg h, if_neg h]; rfl

/-- The words around a word of an inner row. -/
theorem around_word (S : IVec S512x16 32) (i : Fin 512) (k : Fin 16) (h1 : 1 ≤ i.val) (h2 : i.val ≤ 510) :
    around S (ix2 i k) = ((lf (rowN S i.val) k.val ||| rt (rowN S i.val) k.val) ||| al (rowN S (i.val - 1)) k.val)
      ||| al (rowN S (i.val + 1)) k.val := by
  unfold around
  pointwise
  refine congrArg₂ IntOp.ori (congrArg₂ IntOp.ori (congrArg₂ IntOp.ori (lf_eq S i k) (rt_eq S i k)) ?_) ?_
  · refine (dif_neg (by omega)).trans ?_
    exact congrArg₂ IntOp.ori (congrArg₂ IntOp.ori (word_eq S ⟨i.val - 1, by omega⟩ k) (lf_eq S ⟨i.val - 1, by omega⟩ k))
      (rt_eq S ⟨i.val - 1, by omega⟩ k)
  · refine (dif_pos (show i.val < 511 by omega)).trans ?_
    rw [Nat.add_comm i.val 1]
    exact congrArg₂ IntOp.ori (congrArg₂ IntOp.ori (word_eq S ⟨1 + i.val, by omega⟩ k) (lf_eq S ⟨1 + i.val, by omega⟩ k))
      (rt_eq S ⟨1 + i.val, by omega⟩ k)

/-- Bits of a joined row at an inner column. -/
theorem sides_bit (p : Nat → BitVec 32) (n : Nat) (h1 : 1 ≤ n) (h2 : n ≤ 510) :
    ((lf p (n / 32) ||| rt p (n / 32)).getLsbD (n % 32) = true ↔ bitsOf p (n - 1) ∨ bitsOf p (n + 1)) ∧
    ((al p (n / 32)).getLsbD (n % 32) = true ↔ (bitsOf p n ∨ bitsOf p (n - 1)) ∨ bitsOf p (n + 1)) := by
  have hl : (lf p (n / 32)).getLsbD (n % 32) = true ↔ bitsOf p (n - 1) := (left_bit p n).trans (and_iff_right h1)
  have hr : (rt p (n / 32)).getLsbD (n % 32) = true ↔ bitsOf p (n + 1) := (right_bit p n (by omega)).trans (and_iff_right (by omega))
  constructor
  · rw [BitVec.getLsbD_or, Bool.or_eq_true, hl, hr]
  · rw [al, BitVec.getLsbD_or, BitVec.getLsbD_or, Bool.or_eq_true, Bool.or_eq_true, hl, hr]
    exact Iff.rfl

/-- A bit of the second table at an inner pixel: some neighbour of the pixel is set in the packed image. -/
theorem around_bit (S : IVec S512x16 32) (q : Nat → Nat → Prop)
    (hS : ∀ i n : Nat, i < 512 → n < 512 → (bitsOf (rowN S i) n ↔ q i n)) (i n : Nat)
    (h1 : 1 ≤ i) (h2 : i ≤ 510) (h3 : 1 ≤ n) (h4 : n ≤ 510) :
    (around S (ix2 (Fin.ofNat 512 i) (Fin.ofNat 16 (n / 32)))).getLsbD (n % 32) = true ↔
      q (i - 1) (n - 1) ∨ q (i - 1) n ∨ q (i - 1) (n + 1) ∨ q i (n - 1) ∨ q i (n + 1) ∨ q (i + 1) (n - 1) ∨ q (i + 1) n ∨ q (i + 1) (n + 1) := by
  have ei : (Fin.ofNat 512 i).val = i := Nat.mod_eq_of_lt (by omega)
  have ek : (Fin.ofNat 16 (n / 32)).val = n / 32 := Nat.mod_eq_of_lt (by omega)
  rw [around_word S (Fin.ofNat 512 i) (Fin.ofNat 16 (n / 32)) (by omega) (by omega), ei, ek]
  rw [BitVec.getLsbD_or, BitVec.getLsbD_or, Bool.or_eq_true, Bool.or_eq_true, (sides_bit _ n h3 h4).1, (sides_bit _ n h3 h4).2,
    (sides_bit _ n h3 h4).2]
  rw [hS i (n - 1) (by omega) (by omega), hS i (n + 1) (by omega) (by omega), hS (i - 1) (n - 1) (by omega) (by omega),
    hS (i - 1) n (by omega) (by omega), hS (i - 1) (n + 1) (by omega) (by omega), hS (i + 1) (n - 1) (by omega) (by omega),
    hS (i + 1) n (by omega) (by omega), hS (i + 1) (n + 1) (by omega) (by omega)]
  tauto

end Cert.Hyst
-- ==== Proof.RefStep.lean ====
/- One trip of the reference's loop: what it leaves in the trip number and in the carried image. -/
module

public import proofs.«01_k».proof.Proof.Gen.ReferenceIdeal.Run
public import Idealize.ShloMosaic.Lib.Quiescent

@[expose] public section

set_option maxRecDepth 16384

noncomputable section

namespace Cert.ReferenceIdeal.Scan

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-! ### The pieces of a trip -/

/-- An index counted from the end when negative. -/
def wrap (x : IVec S_ 32) : IVec S_ 32 :=
  select (cmpi .slt x (constantI S_ 32 0#32)) (addi x (constantI S_ 32 512#32)) x

/-- The quotient rounded down. -/
def quo (k n : IVec S_ 32) : IVec S_ 32 :=
  select (andi (cmpi .ne (cmpi .ne (signi k) (signi n)) (broadcastInDim S_ ![] bcast_S_S_ (constantI S_ 1 0#1)))
      (cmpi .ne (cmpi .ne (Host.remsi k n) (constantI S_ 32 0#32)) (broadcastInDim S_ ![] bcast_S_S_ (constantI S_ 1 0#1))))
    (subi (Host.divsi k n) (constantI S_ 32 1#32)) (Host.divsi k n)

/-- The divisor, one in place of zero. -/
def divisor (n : IVec S_ 32) : IVec S_ 32 :=
  select (cmpi .eq n (constantI S_ 32 0#32)) (constantI S_ 32 1#32) n

/-- The remainder with the divisor's sign. -/
def rem (k n : IVec S_ 32) : IVec S_ 32 :=
  select (andi (cmpi .ne (cmpi .slt (Host.remsi k (divisor n)) (constantI S_ 32 0#32)) (cmpi .slt (divisor n) (constantI S_ 32 0#32)))
      (cmpi .ne (Host.remsi k (divisor n)) (constantI S_ 32 0#32)))
    (addi (Host.remsi k (divisor n)) (divisor n)) (Host.remsi k (divisor n))

/-- A pair of indices. -/
def pair (a b : IVec S_ 32) : Fin 2 → IVec S_ 32 := Fin.cons a (Fin.cons b fun i => i.elim0)

/-- The three by three block around a pixel. -/
def patch (x : FVec F S512x512 .f32) (r c : IVec S_ 32) : FVec F S3x3 .f32 :=
  Host.dynamicSlice S3x3 x (fun k => (pair (wrap (subi r (constantI S_ 32 1#32))) (wrap (subi c (constantI S_ 32 1#32))) k
    (Shape.Idx.first h_S_)).toInt) sliceFits_S512x512_S3x3

/-- Which pixels of the block are strong. -/
def strong (p : FVec F S3x3 .f32) : IVec S3x3 1 :=
  cmpf .oeq p (broadcastInDim S3x3 ![] bcast_S_S3x3 (constant S_ .f32 0x437F0000#32))

/-- Whether one of the eight pixels around the middle is strong. -/
def hit (b : IVec S3x3 1) : IVec S_ 1 :=
  ori (ori (ori (ori (ori (ori (ori
    (shapeCast S_ (extractStridedSlice S1x1 ![0, 0] b slices_S3x3_S1x1_0_0) shapeCasts_S1x1_S_)
    (shapeCast S_ (extractStridedSlice S1x1 ![0, 1] b slices_S3x3_S1x1_0_1) shapeCasts_S1x1_S_))
    (shapeCast S_ (extractStridedSlice S1x1 ![0, 2] b slices_S3x3_S1x1_0_2) shapeCasts_S1x1_S_))
    (shapeCast S_ (extractStridedSlice S1x1 ![1, 0] b slices_S3x3_S1x1_1_0) shapeCasts_S1x1_S_))
    (shapeCast S_ (extractStridedSlice S1x1 ![1, 2] b slices_S3x3_S1x1_1_2) shapeCasts_S1x1_S_))
    (shapeCast S_ (extractStridedSlice S1x1 ![2, 0] b slices_S3x3_S1x1_2_0) shapeCasts_S1x1_S_))
    (shapeCast S_ (extractStridedSlice S1x1 ![2, 1] b slices_S3x3_S1x1_2_1) shapeCasts_S1x1_S_))
    (shapeCast S_ (extractStridedSlice S1x1 ![2, 2] b slices_S3x3_S1x1_2_2) shapeCasts_S1x1_S_)

/-- The pixel in the middle. -/
def middle (p : FVec F S3x3 .f32) : FVec F S_ .f32 :=
  shapeCast S_ (extractStridedSlice S1x1 ![1, 1] p slices_S3x3_S1x1_1_1) shapeCasts_S1x1_S_

/-- The pixel's new value. -/
def fresh (p : FVec F S3x3 .f32) : FVec F S_ .f32 :=
  select (cmpf .oeq (middle p) (constant S_ .f32 0x41C80000#32))
    (select (hit (strong p)) (constant S_ .f32 0x437F0000#32) (constant S_ .f32 0x00000000#32)) (middle p)

/-- The image with one pixel replaced. -/
def put (x : FVec F S512x512 .f32) (r c : IVec S_ 32) (v : FVec F S_ .f32) : FVec F S512x512 .f32 :=
  Host.scatter scatter_S512x512_S2_S__n_01_01_0 (fun _ b => b) x
    (concatenate S2 0 [⟨S1, broadcastInDim S1 ![] bcast_S_S1 (wrap r)⟩, ⟨S1, broadcastInDim S1 ![] bcast_S_S1 (wrap c)⟩] concatenates_S1_S1_S2_d0) v

/-- The row of a trip's pixel. -/
def rowOf (k : IVec S_ 32) : IVec S_ 32 := addi (constantI S_ 32 1#32) (quo k (constantI S_ 32 510#32))

/-- The column of a trip's pixel. -/
def colOf (k : IVec S_ 32) : IVec S_ 32 := addi (constantI S_ 32 1#32) (rem k (constantI S_ 32 510#32))

/-- One trip on the image. -/
def trip (k : IVec S_ 32) (x : FVec F S512x512 .f32) : FVec F S512x512 .f32 :=
  put x (rowOf k) (colOf k) (fresh (patch x (rowOf k) (colOf k)))

/-! ### Each stretch of the body, at the buffers it leaves for later -/

variable (X : Valuation τ sig (Elt F))

/-- The next trip number. -/
theorem next_0 : after while0Ops0 X (Proc.devRef .tc main_while0b_v18) = addi (X (Proc.devRef .tc main_v16_1)) (constantI S_ 32 1#32) := by
  after_results
/-- The width of the inner image, for the quotient. -/
theorem bound_0 : after while0Ops0 X (Proc.devRef .tc main_while0b_c_9) = constantI S_ 32 510#32 := by
  after_results
set_option maxHeartbeats 1000000 in
/-- The quotient of the trip number by the inner width. -/
theorem quo_1 : after while0Ops0_1 X (Proc.devRef .tc main_while0b_v19)
    = quo (X (Proc.devRef .tc main_v16_1)) (X (Proc.devRef .tc main_while0b_c_9)) := by
  after_results
  rfl
/-- The row of the trip. -/
theorem row_2 : after while0Ops0_2 X (Proc.devRef .tc main_while0b_v20)
    = addi (constantI S_ 32 1#32) (X (Proc.devRef .tc main_while0b_v19)) := by
  after_results
/-- The width of the inner image, for the remainder. -/
theorem bound_2 : after while0Ops0_2 X (Proc.devRef .tc main_while0b_c_11) = constantI S_ 32 510#32 := by
  after_results
set_option maxHeartbeats 1000000 in
/-- The remainder of the trip number by the inner width. -/
theorem rem_3 : after while0Ops0_3 X (Proc.devRef .tc main_while0b_v21)
    = rem (X (Proc.devRef .tc main_v16_1)) (X (Proc.devRef .tc main_while0b_c_11)) := by
  after_results
  rfl
/-- The column of the trip. -/
theorem col_4 : after while0Ops0_4 X (Proc.devRef .tc main_while0b_v22)
    = addi (constantI S_ 32 1#32) (X (Proc.devRef .tc main_while0b_v21)) := by
  after_results
/-- The image after the trip. -/
theorem fresh_7 : after while0Ops0_7 X (Proc.devRef .tc main_v16_2)
    = put (X (Proc.devRef .tc main_v16_2)) (X (Proc.devRef .tc main_while0b_v20)) (X (Proc.devRef .tc main_while0b_v22))
        (X (Proc.devRef .tc main_while0b_v63)) := by
  after_results
  rfl
/-- The trip number after the trip. -/
theorem next_7 : after while0Ops0_7 X (Proc.devRef .tc main_v16_1) = X (Proc.devRef .tc main_while0b_v18) := by
  after_results
  rfl
/-- The new value of the pixel, by whether it is weak. -/
theorem val_6 : after while0Ops0_6 X (Proc.devRef .tc main_while0b_v63)
    = select (X (Proc.devRef .tc main_while0b_v61)) (X (Proc.devRef .tc main_while0b_v62)) (X (Proc.devRef .tc main_while0b_v60)) := by
  after_results
  rfl
/-- The new value of a weak pixel. -/
theorem val_5 : after while0Ops0_5 X (Proc.devRef .tc main_while0b_v62)
    = select (X (Proc.devRef .tc main_while0b_v58)) (X (Proc.devRef .tc main_while0b_cst_21)) (X (Proc.devRef .tc main_while0b_cst_22)) := by
  after_results
  rfl
/-- The strong value. -/
theorem strong_4 : after while0Ops0_4 X (Proc.devRef .tc main_while0b_cst_21) = constant S_ .f32 0x437F0000#32 := by
  after_results
/-- The value of a pixel that is dropped. -/
theorem zero_4 : after while0Ops0_4 X (Proc.devRef .tc main_while0b_cst_22) = constant S_ .f32 0x00000000#32 := by
  after_results

/-- The block a trip reads, from the buffers of its row, its column and the image. -/
abbrev blockAt : FVec F S3x3 .f32 :=
  patch (X (Proc.devRef .tc main_v16_2)) (X (Proc.devRef .tc main_while0b_v20)) (addi (constantI S_ 32 1#32) (X (Proc.devRef .tc main_while0b_v21)))

/-- The patch that the trip reads. -/
theorem patch_4 : after while0Ops0_4 X (Proc.devRef .tc main_while0b_v33) = blockAt X := by
  after_results
  unfold blockAt patch
  refine congrArg (fun i => Host.dynamicSlice S3x3 (X (Proc.devRef .tc main_v16_2)) i sliceFits_S512x512_S3x3) (funext fun k => ?_)
  refine congrArg (fun v : IVec S_ 32 => (v (Shape.Idx.first h_S_)).toInt) ?_
  match k with
  | 0 => rfl
  | 1 => rfl

set_option maxHeartbeats 1000000 in
/-- Whether a neighbour in the patch is strong. -/
theorem hit_4 : after while0Ops0_4 X (Proc.devRef .tc main_while0b_v58) = hit (strong (after while0Ops0_4 X (Proc.devRef .tc main_while0b_v33))) := by
  after_results
  rfl
/-- The centre of the patch. -/
theorem middle_4 : after while0Ops0_4 X (Proc.devRef .tc main_while0b_v60) = middle (after while0Ops0_4 X (Proc.devRef .tc main_while0b_v33)) := by
  after_results
  rfl
/-- Whether the centre is weak. -/
theorem weak_4 : after while0Ops0_4 X (Proc.devRef .tc main_while0b_v61)
    = cmpf .oeq (middle (after while0Ops0_4 X (Proc.devRef .tc main_while0b_v33))) (constant S_ .f32 0x41C80000#32) := by
  after_results
  rfl

/-! ### The trip -/

/-- A stretch leaves a buffer it does not write. -/
theorem keep {ops : List (HloOp τ sig (Elt F))} {W : List (Ref sig .tc)}
    (h : ops.Forall fun op => op.writes ⊆ (W.map (Proc.devRef (τ := τ) .tc)).toFinset) (V : Valuation τ sig (Elt F))
    {b : Ref sig .tc} (hb : b ∉ W) : after ops V (Proc.devRef .tc b) = V (Proc.devRef .tc b) :=
  after_of_writes_sub ops V h hb

/-- The buffers after the body and the condition. -/
abbrev tripped : Valuation τ sig (Elt F) := afterL bodyI (after condOps X)

/-- A trip steps the trip number. -/
theorem tripped_number : tripped X (Proc.devRef .tc main_v16_1) = addi (X (Proc.devRef .tc main_v16_1)) (constantI S_ 32 1#32) := by
  unfold tripped
  simp only [afterL_cons, afterL_nil]
  rw [next_7, keep while0Ops0_6_writes _ (by decide +kernel), keep while0Ops0_5_writes _ (by decide +kernel),
    keep while0Ops0_4_writes _ (by decide +kernel), keep while0Ops0_3_writes _ (by decide +kernel),
    keep while0Ops0_2_writes _ (by decide +kernel), keep while0Ops0_1_writes _ (by decide +kernel), next_0,
    keep condOps_writes _ (by decide +kernel)]

/-- A trip replaces the image by `trip` of it. -/
theorem tripped_image : tripped X (Proc.devRef .tc main_v16_2) = trip (X (Proc.devRef .tc main_v16_1)) (X (Proc.devRef .tc main_v16_2)) := by
  unfold tripped
  simp only [afterL_cons, afterL_nil]
  have eN : after while0Ops0_2 (after while0Ops0_1 (after while0Ops0 (after condOps X))) (Proc.devRef .tc main_v16_1)
      = X (Proc.devRef .tc main_v16_1) := by
    rw [keep while0Ops0_2_writes _ (by decide +kernel), keep while0Ops0_1_writes _ (by decide +kernel),
      keep while0Ops0_writes _ (by decide +kernel), keep condOps_writes _ (by decide +kernel)]
  have eI : after while0Ops0_3 (after while0Ops0_2 (after while0Ops0_1 (after while0Ops0 (after condOps X)))) (Proc.devRef .tc main_v16_2)
      = X (Proc.devRef .tc main_v16_2) := by
    rw [keep while0Ops0_3_writes _ (by decide +kernel), keep while0Ops0_2_writes _ (by decide +kernel),
      keep while0Ops0_1_writes _ (by decide +kernel), keep while0Ops0_writes _ (by decide +kernel),
      keep condOps_writes _ (by decide +kernel)]
  have eR : after while0Ops0_3 (after while0Ops0_2 (after while0Ops0_1 (after while0Ops0 (after condOps X)))) (Proc.devRef .tc main_while0b_v20)
      = rowOf (X (Proc.devRef .tc main_v16_1)) := by
    rw [keep while0Ops0_3_writes _ (by decide +kernel), row_2, quo_1, keep while0Ops0_writes _ (by decide +kernel), bound_0,
      keep condOps_writes _ (by decide +kernel)]
    rfl
  have eC : addi (constantI S_ 32 1#32) (after while0Ops0_3 (after while0Ops0_2 (after while0Ops0_1 (after while0Ops0 (after condOps X))))
      (Proc.devRef .tc main_while0b_v21)) = colOf (X (Proc.devRef .tc main_v16_1)) := by
    rw [rem_3, bound_2, eN]
    rfl
  rw [fresh_7, val_6, val_5]
  rw [keep while0Ops0_6_writes _ (by decide +kernel) (b := main_v16_2), keep while0Ops0_5_writes _ (by decide +kernel) (b := main_v16_2),
    keep while0Ops0_4_writes _ (by decide +kernel) (b := main_v16_2), eI,
    keep while0Ops0_6_writes _ (by decide +kernel) (b := main_while0b_v20), keep while0Ops0_5_writes _ (by decide +kernel) (b := main_while0b_v20),
    keep while0Ops0_4_writes _ (by decide +kernel) (b := main_while0b_v20), eR,
    keep while0Ops0_6_writes _ (by decide +kernel) (b := main_while0b_v22), keep while0Ops0_5_writes _ (by decide +kernel) (b := main_while0b_v22),
    col_4, eC,
    keep while0Ops0_5_writes _ (by decide +kernel) (b := main_while0b_v61), keep while0Ops0_5_writes _ (by decide +kernel) (b := main_while0b_v60),
    strong_4, zero_4, hit_4, middle_4, weak_4, patch_4]
  unfold blockAt
  rw [eI, eR, eC]
  rfl

/-! ### Before the loop and after it -/

/-- The argument without its two unit axes. -/
def flat (a : FVec F S1x1x512x512 .f32) : FVec F S512x512 .f32 := shapeCast S512x512 a shapeCasts_S1x1x512x512_S512x512

/-- The upper threshold: a fixed part of the largest pixel. -/
def high (x : FVec F S512x512 .f32) : FVec F S_ .f32 :=
  mulf (Host.reduce FloatOps.maximumf x (constant S_ .f32 0xFF800000#32) reducesTo_S512x512_S_d0_1 h_S_) (constant S_ .f32 0x3E19999A#32)

/-- The lower threshold: a fixed part of the upper one. -/
def low (x : FVec F S512x512 .f32) : FVec F S_ .f32 := mulf (high x) (constant S_ .f32 0x3D4CCCCD#32)

/-- The image the loop starts from: every pixel classified. -/
def start (x : FVec F S512x512 .f32) : FVec F S512x512 .f32 :=
  select (cmpf .olt x (broadcastInDim S512x512 ![] bcast_S_S512x512 (low x)))
    (broadcastInDim S512x512 ![] bcast_S_S512x512 (constant S_ .f32 0x00000000#32))
    (select (andi (cmpf .ole x (broadcastInDim S512x512 ![] bcast_S_S512x512 (high x))) (cmpf .oge x (broadcastInDim S512x512 ![] bcast_S_S512x512 (low x))))
      (broadcastInDim S512x512 ![] bcast_S_S512x512 (constant S_ .f32 0x41C80000#32))
      (select (cmpf .oge x (broadcastInDim S512x512 ![] bcast_S_S512x512 (high x)))
        (broadcastInDim S512x512 ![] bcast_S_S512x512 (constant S_ .f32 0x437F0000#32)) x))

/-- The image after a number of trips. -/
def after_trips (x : FVec F S512x512 .f32) : Nat → FVec F S512x512 .f32
  | 0 => start x
  | k + 1 => trip (fun _ => BitVec.ofNat 32 k) (after_trips x k)

variable (m : (ℓ : Loc nD τ sig) → Buf (Elt F) ℓ) (ρ : Dev nD → PrngReg)

/-- The input image. -/
def input (c : Dev nD) : FVec F S512x512 .f32 := flat (m ((c.tc : Thread nD τ).loc main_arg0))

/-- The loop starts at trip zero. -/
theorem entry_number (c : Dev nD) : entryContents preI m c (Proc.devRef .tc main_v16_1) = fun _ => (0#32 : BitVec 32) := by
  simp only [entryContents, afterL_cons, afterL_nil]
  after_reads_simp
  rfl

/-- The loop starts from the sorted image. -/
theorem entry_image (c : Dev nD) : entryContents preI m c (Proc.devRef .tc main_v16_2) = start (input m c) := by
  simp only [entryContents, afterL_cons, afterL_nil]
  after_reads_simp
  rfl

/-- Before a trip: the trip number, and the image after the trips so far. -/
theorem at_trip (c : Dev nD) : ∀ k, atK m k c (Proc.devRef .tc main_v16_1) = (fun _ => BitVec.ofNat 32 k)
    ∧ atK m k c (Proc.devRef .tc main_v16_2) = after_trips (input m c) k
  | 0 => ⟨entry_number m c, entry_image m c⟩
  | k + 1 => by
    have h := at_trip c k
    rw [show atK m (k + 1) c = tripped (atK m k c) from rfl, tripped_number, tripped_image, h.1, h.2]
    refine ⟨funext fun _ => ?_, rfl⟩
    show BitVec.ofNat 32 k + 1#32 = BitVec.ofNat 32 (k + 1)
    rw [BitVec.ofNat_add]

/-- The result: the image after all trips, under two unit axes. -/
def result (c : Dev nD) : FVec F S1x1x512x512 .f32 :=
  broadcastInDim S1x1x512x512 ![2, 3] bcast_S512x512_S1x1x512x512_2_3 (after_trips (input m c) 260100)

/-- The result is the image after the last trip. -/
theorem final_result (c : Dev nD) : finalContents condOps preI bodyI postI 260100 m c (Proc.devRef .tc main_v17) = result m c := by
  show after hostOps0_7 (after condOps (atK m 260100 c)) (Proc.devRef .tc main_v17) = _
  have e : after hostOps0_7 (after condOps (atK m 260100 c)) (Proc.devRef .tc main_v17)
      = broadcastInDim S1x1x512x512 ![2, 3] bcast_S512x512_S1x1x512x512_2_3 (after condOps (atK m 260100 c) (Proc.devRef .tc main_v16_2)) := by
    after_results
  rw [e, keep condOps_writes _ (by decide +kernel), (at_trip m c 260100).2]
  rfl

/-- No trip writes the argument. -/
theorem tripped_arg : tripped X (Proc.devRef .tc main_arg0) = X (Proc.devRef .tc main_arg0) := by
  unfold tripped
  simp only [afterL_cons, afterL_nil]
  rw [keep while0Ops0_7_writes _ (by decide +kernel), keep while0Ops0_6_writes _ (by decide +kernel),
    keep while0Ops0_5_writes _ (by decide +kernel), keep while0Ops0_4_writes _ (by decide +kernel),
    keep while0Ops0_3_writes _ (by decide +kernel), keep while0Ops0_2_writes _ (by decide +kernel),
    keep while0Ops0_1_writes _ (by decide +kernel), keep while0Ops0_writes _ (by decide +kernel),
    keep condOps_writes _ (by decide +kernel)]

/-- The argument is unchanged before the loop. -/
theorem entry_arg (c : Dev nD) : entryContents preI m c (Proc.devRef .tc main_arg0) = m ((c.tc : Thread nD τ).loc main_arg0) := by
  simp only [entryContents, afterL_cons, afterL_nil]
  rw [keep hostOps0_6_writes _ (by decide +kernel), keep hostOps0_5_writes _ (by decide +kernel),
    keep hostOps0_4_writes _ (by decide +kernel), keep hostOps0_3_writes _ (by decide +kernel),
    keep hostOps0_2_writes _ (by decide +kernel), keep hostOps0_1_writes _ (by decide +kernel),
    keep hostOps0_writes _ (by decide +kernel)]

/-- The argument is unchanged after every trip. -/
theorem arg_trip (c : Dev nD) : ∀ k, atK m k c (Proc.devRef .tc main_arg0) = m ((c.tc : Thread nD τ).loc main_arg0)
  | 0 => entry_arg m c
  | k + 1 => by
    rw [show atK m (k + 1) c = tripped (atK m k c) from rfl, tripped_arg]
    exact arg_trip c k

/-- The argument is unchanged at the end. -/
theorem final_arg (c : Dev nD) : finalContents condOps preI bodyI postI 260100 m c (Proc.devRef .tc main_arg0)
    = m ((c.tc : Thread nD τ).loc main_arg0) := by
  show after hostOps0_7 (after condOps (atK m 260100 c)) (Proc.devRef .tc main_arg0) = _
  rw [keep hostOps0_7_writes _ (by decide +kernel), keep condOps_writes _ (by decide +kernel), arg_trip]

/-- Every execution ends with the result buffer at the image after all trips and the argument unchanged. -/
theorem run_value : θ_run (defs (F := F)) (onTc (τ := τ) (main (F := F))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)) :=
  (θ_run defs _ _).mono (fun _ h c => ⟨(h c main_v17 (by decide)).trans (final_result m c), (h c main_arg0 (by decide)).trans (final_arg m c)⟩)
    (run_fold m ρ)

/-- The argument ends unchanged, and every counter reads zero. -/
theorem frame_all : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (run_value m ρ)

end Cert.ReferenceIdeal.Scan
-- ==== Proof.RefTrip.lean ====
/- One trip of the reference's loop, pixel by pixel: the trip number gives one interior pixel, and only that pixel can
   change. -/
module

public import proofs.«01_k».proof.Proof.RefStep
public import Idealize.ShloMosaic.Lib.Routing.OpsOne
public import Idealize.ShloMosaic.Lib.Routing.Words
public import Idealize.ShloMosaic.Lib.Pointwise
public import Idealize.ShloMosaic.Lib.DynamicIndex

@[expose] public section

set_option maxRecDepth 16384

noncomputable section

namespace Cert.ReferenceIdeal.Scan

open Cert.ReferenceIdeal Cert.ReferenceIdeal.Gen
open Idealize.ShloMosaic Idealize.ShloMosaic.StableHlo

/-- An image's pixel at a row and a column. -/
def px {α : Type} (x : S512x512.Idx → α) (a b : Nat) : α := x (ix2 (Fin.ofNat 512 a) (Fin.ofNat 512 b))

/-- The value of a strong pixel. -/
def big : EReal := Ideal.ofBits .f32 0x437F0000#32
/-- The value of a weak pixel. -/
def mid : EReal := Ideal.ofBits .f32 0x41C80000#32

/-- The strong value is 255. -/
theorem big_eq : big = ((255 : ℝ) : EReal) := by
  unfold big
  simp [Ideal.ofBits, Ideal.ieee, -EReal.coe_mul]; norm_num

/-- The weak value is 25. -/
theorem mid_eq : mid = ((25 : ℝ) : EReal) := by
  unfold mid
  simp [Ideal.ofBits, Ideal.ieee, -EReal.coe_mul]; norm_num

/-! ### The pixel of a trip -/

/-- An index from zero up is left as it is. -/
theorem wrap_small (x : IVec S_ 32) (j : S_.Idx) (n : Nat) (h : n < 2 ^ 31) (e : x j = BitVec.ofNat 32 n) :
    wrap x j = BitVec.ofNat 32 n := by
  unfold wrap
  rw [select_slt_zero_of_nonneg x _ x j (by rw [e, StableHlo.Predicate.toInt_ofNat_small _ h]; omega), e]

/-- The row of trip `n`. -/
theorem rowOf_word (n : Nat) (h : n < 260100) (j : S_.Idx) :
    rowOf (fun _ => BitVec.ofNat 32 n) j = BitVec.ofNat 32 (n / 510 + 1) := by
  have e1 := Routing.divsi_word .host (a := n) (b := 510) (by omega) (by omega) (by omega)
  have e2 := Routing.remsi_word .host (a := n) (b := 510) (by omega) (by omega) (by omega)
  unfold rowOf quo
  pointwise [e1, e2]
  have hs : IntOp.andi (IntOp.cmpi CmpIPredicate.ne (IntOp.cmpi CmpIPredicate.ne
      (if BitVec.ofNat 32 n = 0 then (0 : BitVec 32) else if (BitVec.ofNat 32 n).msb = true then -1 else 1)
      (if 510#32 = 0 then (0 : BitVec 32) else if (510#32).msb = true then -1 else 1)) 0#1)
      (IntOp.cmpi .ne (IntOp.cmpi .ne (BitVec.ofNat 32 (n % 510)) 0#32) 0#1) = 0#1 := by
    by_cases h0 : n = 0
    · subst h0
      decide
    · rw [if_neg (Routing.ofNat32_ne_zero (by omega) (by omega)), if_neg (by
        rw [BitVec.msb_eq_decide, BitVec.toNat_ofNat]
        simp only [decide_eq_true_eq]
        omega)]
      exact BitVec.zero_and
  refine (congrArg (fun t => IntOp.addi 1#32 (Scalar.select t (IntOp.subi (BitVec.ofNat 32 (n / 510)) 1#32) (BitVec.ofNat 32 (n / 510)))) hs).trans ?_
  show 1#32 + BitVec.ofNat 32 (n / 510) = _
  rw [Nat.add_comm, BitVec.ofNat_add]

/-- The column of trip `n`. -/
theorem colOf_word (n : Nat) (h : n < 260100) (j : S_.Idx) :
    colOf (fun _ => BitVec.ofNat 32 n) j = BitVec.ofNat 32 (n % 510 + 1) := by
  have e2 := Routing.remsi_word .host (a := n) (b := 510) (by omega) (by omega) (by omega)
  unfold colOf rem divisor
  pointwise
  have hd : Scalar.select (IntOp.cmpi CmpIPredicate.eq 510#32 0#32) 1#32 510#32 = 510#32 := rfl
  rw [hd, e2]
  have hs : IntOp.cmpi CmpIPredicate.ne (IntOp.cmpi CmpIPredicate.slt (BitVec.ofNat 32 (n % 510)) 0#32)
      (IntOp.cmpi CmpIPredicate.slt 510#32 0#32) = 0#1 := by
    have : (BitVec.ofNat 32 (n % 510)).slt 0#32 = false := by
      simp only [BitVec.slt, BitVec.toInt_zero, decide_eq_false_iff_not, Int.not_lt]
      rw [StableHlo.Predicate.toInt_ofNat_small _ (by omega)]
      omega
    show IntOp.cmpi _ (BitVec.ofBool (BitVec.slt _ _)) _ = _
    rw [this]
    rfl
  rw [hs]
  show 1#32 + Scalar.select (0#1 &&& _) _ _ = _
  rw [BitVec.zero_and]
  show 1#32 + BitVec.ofNat 32 (n % 510) = _
  rw [Nat.add_comm, BitVec.ofNat_add]

/-! ### What a trip reads and writes -/

/-- Whether one of the eight pixels around a pixel is strong. -/
def near (x : FVec Ideal S512x512 .f32) (r c : Nat) : Prop :=
  px x (r - 1) (c - 1) = big ∨ px x (r - 1) c = big ∨ px x (r - 1) (c + 1) = big ∨ px x r (c - 1) = big ∨
    px x r (c + 1) = big ∨ px x (r + 1) (c - 1) = big ∨ px x (r + 1) c = big ∨ px x (r + 1) (c + 1) = big

open Classical in
/-- What a trip writes at its pixel. -/
def newPx (x : FVec Ideal S512x512 .f32) (r c : Nat) : EReal :=
  if px x r c = mid then (if near x r c then big else 0) else px x r c

/-- A choice by a decided bit. -/
theorem select_ofBool {α : Type} (p : Prop) [Decidable p] (a b : α) :
    Scalar.select (BitVec.ofBool (decide p)) a b = if p then a else b := by
  by_cases h : p <;> simp [h, Scalar.select]

/-- The block of a trip holds the nine pixels around its pixel. -/
theorem patch_px (x : FVec Ideal S512x512 .f32) (r c : IVec S_ 32) (n m : Nat) (hn : 1 ≤ n ∧ n ≤ 510) (hm : 1 ≤ m ∧ m ≤ 510)
    (hr : r = fun _ => BitVec.ofNat 32 n) (hc : c = fun _ => BitVec.ofNat 32 m) (i j : Fin 3) :
    patch x r c (ix2 i j) = px x (n - 1 + i) (m - 1 + j) := by
  unfold patch
  have hw : ∀ (y : IVec S_ 32) (n : Nat), 1 ≤ n → n ≤ 510 → y = (fun _ => BitVec.ofNat 32 n) →
      (wrap (subi y (constantI S_ 32 1#32)) (Shape.Idx.first h_S_)).toInt = ((n - 1 : Nat) : Int) := by
    intro y n h1 h2 e
    rw [wrap_small _ _ (n - 1) (by omega), StableHlo.Predicate.toInt_ofNat_small _ (by omega)]
    subst e
    show BitVec.ofNat 32 n - 1#32 = _
    apply BitVec.eq_of_toNat_eq
    simp only [BitVec.toNat_sub, BitVec.toNat_ofNat]
    omega
  have h0 := hw r n hn.1 hn.2 hr
  have h1 := hw c m hm.1 hm.2 hc
  rw [Host.dynamicSlice_eq_extractStridedSlice S3x3 x _ (fun a => (![n - 1, m - 1] : Fin 2 → Nat) a) sliceFits_S512x512_S3x3
    ⟨rfl, fun a => by
      match a with
      | 0 => show n - 1 + 3 ≤ 512; omega
      | 1 => show m - 1 + 3 ≤ 512; omega⟩ (fun a => by
      match a with
      | 0 => exact h0
      | 1 => exact h1)]
  unfold px
  show x _ = x _
  refine congrArg x (funext fun a => Fin.ext ?_)
  have := i.isLt
  have := j.isLt
  match a with
  | 0 => show n - 1 + i.val = (n - 1 + i.val) % 512; omega
  | 1 => show m - 1 + j.val = (m - 1 + j.val) % 512; omega

/-- A trip's new value, from the block. -/
theorem fresh_px (x : FVec Ideal S512x512 .f32) (r c : IVec S_ 32) (n m : Nat) (hn : 1 ≤ n ∧ n ≤ 510) (hm : 1 ≤ m ∧ m ≤ 510)
    (hr : r = fun _ => BitVec.ofNat 32 n) (hc : c = fun _ => BitVec.ofNat 32 m) :
    fresh (patch x r c) ix0 = newPx x n m := by
  have hp := patch_px x r c n m hn hm hr hc
  unfold fresh middle hit strong
  pointwise
  rw [hp, hp, hp, hp, hp, hp, hp, hp, hp]
  have e1 : n - 1 + (1 : Fin 3).val = n := by show n - 1 + 1 = n; omega
  have e2 : m - 1 + (1 : Fin 3).val = m := by show m - 1 + 1 = m; omega
  have e3 : n - 1 + (2 : Fin 3).val = n + 1 := by show n - 1 + 2 = n + 1; omega
  have e4 : m - 1 + (2 : Fin 3).val = m + 1 := by show m - 1 + 2 = m + 1; omega
  have e5 : ∀ k : Nat, k + (0 : Fin 3).val = k := fun k => rfl
  rw [e1, e2, e3, e4, e5, e5]
  unfold newPx near
  classical
  show (if px x n m = mid then _ else _) = _
  by_cases h : px x n m = mid
  · rw [if_pos h, if_pos h]
    have ho : ∀ (p q : Prop) [Decidable p] [Decidable q], IntOp.ori (BitVec.ofBool (decide p)) (BitVec.ofBool (decide q))
        = BitVec.ofBool (decide (p ∨ q)) := by
      intro p q _ _
      by_cases hp : p <;> by_cases hq : q <;> simp [hp, hq, IntOp.ori]
    rw [ho, ho, ho, ho, ho, ho, ho]
    simp only [or_assoc]
    rw [select_ofBool]
    by_cases hh : near x n m
    · exact (if_pos hh).trans (if_pos hh).symm
    · exact (if_neg hh).trans (if_neg hh).symm
  · rw [if_neg h, if_neg h]

/-- A trip, at a pixel: its own pixel gets the new value, every other keeps its value. -/
theorem trip_px (n : Nat) (h : n < 260100) (x : FVec Ideal S512x512 .f32) (a b : Nat) (ha : a < 512) (hb : b < 512) :
    px (trip (fun _ => BitVec.ofNat 32 n) x) a b
      = if a = n / 510 + 1 ∧ b = n % 510 + 1 then newPx x (n / 510 + 1) (n % 510 + 1) else px x a b := by
  have hr : rowOf (fun _ => BitVec.ofNat 32 n) = fun _ => BitVec.ofNat 32 (n / 510 + 1) := funext fun j => rowOf_word n h j
  have hc : colOf (fun _ => BitVec.ofNat 32 n) = fun _ => BitVec.ofNat 32 (n % 510 + 1) := funext fun j => colOf_word n h j
  unfold trip put
  refine (Routing.scatter_cell_signed (R := 512) (C := 512) scatter_S512x512_S2_S__n_01_01_0 rfl rfl rfl x _ _
    (Fin.ofNat 512 a) (Fin.ofNat 512 b)).trans ?_
  have hf := fresh_px x _ _ (n / 510 + 1) (n % 510 + 1) (by omega) (by omega) hr hc
  rw [show ValueIdx.ix0 = ix0 from funext fun a => a.elim0, hf]
  pointwise
  rw [wrap_small (rowOf _) ix0 (n / 510 + 1) (by omega) (by rw [hr]), wrap_small (colOf _) ix0 (n % 510 + 1) (by omega) (by rw [hc]),
    StableHlo.Predicate.toInt_ofNat_small _ (by omega), StableHlo.Predicate.toInt_ofNat_small _ (by omega)]
  have ea : (Fin.ofNat 512 a).val = a := Nat.mod_eq_of_lt ha
  have eb : (Fin.ofNat 512 b).val = b := Nat.mod_eq_of_lt hb
  rw [ea, eb]
  by_cases h' : a = n / 510 + 1 ∧ b = n % 510 + 1
  · rw [if_pos h', if_pos (by omega)]
  · rw [if_neg h', if_neg (by omega)]
    rfl

end Cert.ReferenceIdeal.Scan
-- ==== Proof.RefScan.lean ====
/- The reference's loop as a row scan: after all trips every weak interior pixel is strong or suppressed by whether the scan
   promotes it, and every other pixel is as it was. -/
module

public import proofs.«01_k».proof.Proof.RefTrip
public import proofs.«01_k».proof.Proof.Spec

@[expose] public section

noncomputable section

namespace Cert.ReferenceIdeal.Scan

open Cert.ReferenceIdeal Cert.ReferenceIdeal.Gen Cert.Hyst
open Idealize.ShloMosaic

/-- The weak interior pixels of an image. -/
def weakAt (y : FVec Ideal S512x512 .f32) (i j : Nat) : Prop := (1 ≤ i ∧ i ≤ 510 ∧ 1 ≤ j ∧ j ≤ 510) ∧ px y i j = mid

/-- The pixels the scan promotes. -/
def promoted (y : FVec Ideal S512x512 .f32) (i j : Nat) : Prop := promo (weakAt y) (near y) (i + 1) j

open Classical in
/-- A pixel after the scan. -/
def final (y : FVec Ideal S512x512 .f32) (i j : Nat) : EReal :=
  if weakAt y i j then (if promoted y i j then big else 0) else px y i j

/-- The strong value is not the weak one. -/
theorem big_ne_mid : big ≠ mid := by
  rw [big_eq, mid_eq]
  norm_num

/-- The strong value is not zero. -/
theorem big_ne_zero : big ≠ 0 := by
  rw [big_eq]
  norm_num

/-- After the scan a pixel is strong when it was, or when it is promoted. -/
theorem final_eq_big (y : FVec Ideal S512x512 .f32) (i j : Nat) : final y i j = big ↔ px y i j = big ∨ promoted y i j := by
  unfold final
  by_cases hw : weakAt y i j
  · rw [if_pos hw, hw.2]
    by_cases hp : promoted y i j
    · simp [hp]
    · simp [hp, big_ne_mid.symm, big_ne_zero.symm]
  · have : ¬ promoted y i j := fun h => hw (promo_weak h)
    simp [hw, this]

/-- A row of the scan in its second and later columns, by the pixels around. -/
theorem promoted_iff (y : FVec Ideal S512x512 .f32) (i j : Nat) :
    promoted y (i + 1) (j + 1) ↔ weakAt y (i + 1) (j + 1) ∧ (near y (i + 1) (j + 1) ∨ promoted y i j ∨ promoted y i (j + 1) ∨
      promoted y i (j + 2) ∨ promoted y (i + 1) j) := Iff.rfl

/-- The image while the loop runs: the pixels before the trip's are final, the others as they were. -/
theorem after_px (x : FVec Ideal S512x512 .f32) (k : Nat) (hk : k ≤ 260100) : ∀ a b : Nat, a < 512 → b < 512 →
    ((1 ≤ a ∧ a ≤ 510 ∧ 1 ≤ b ∧ b ≤ 510) ∧ 510 * (a - 1) + (b - 1) < k → px (after_trips x k) a b = final (start x) a b) ∧
    (¬ ((1 ≤ a ∧ a ≤ 510 ∧ 1 ≤ b ∧ b ≤ 510) ∧ 510 * (a - 1) + (b - 1) < k) → px (after_trips x k) a b = px (start x) a b) := by
  induction k with
  | zero =>
    intro a b _ _
    exact ⟨fun h => absurd h.2 (by omega), fun _ => rfl⟩
  | succ k ih =>
    have ih := ih (by omega)
    have hb : ∀ a b : Nat, a < 512 → b < 512 → (px (after_trips x k) a b = big ↔ px (start x) a b = big ∨
        (((1 ≤ a ∧ a ≤ 510 ∧ 1 ≤ b ∧ b ≤ 510) ∧ 510 * (a - 1) + (b - 1) < k) ∧ promoted (start x) a b)) := by
      intro a b ha hb
      by_cases hd : (1 ≤ a ∧ a ≤ 510 ∧ 1 ≤ b ∧ b ≤ 510) ∧ 510 * (a - 1) + (b - 1) < k
      · rw [(ih a b ha hb).1 hd, final_eq_big]
        exact or_congr_right (and_iff_right hd).symm
      · rw [(ih a b ha hb).2 hd]
        exact ⟨Or.inl, fun h => h.elim id fun h => absurd h.1 hd⟩
    intro a b ha hb'
    show (_ → px (trip (fun _ => BitVec.ofNat 32 k) (after_trips x k)) a b = _) ∧
      (_ → px (trip (fun _ => BitVec.ofNat 32 k) (after_trips x k)) a b = _)
    rw [trip_px k (by omega) _ a b ha hb']
    by_cases hp : a = k / 510 + 1 ∧ b = k % 510 + 1
    · rw [if_pos hp]
      refine ⟨fun _ => ?_, fun h => absurd h (by omega)⟩
      obtain ⟨i, rfl⟩ : ∃ i, a = i + 1 := ⟨a - 1, by omega⟩
      obtain ⟨j, rfl⟩ : ∃ j, b = j + 1 := ⟨b - 1, by omega⟩
      rw [← hp.1, ← hp.2]
      have hc := (ih (i + 1) (j + 1) ha hb').2 (by omega)
      unfold newPx
      rw [hc]
      by_cases hm : px (start x) (i + 1) (j + 1) = mid
      · have hw : weakAt (start x) (i + 1) (j + 1) := ⟨by omega, hm⟩
        have hn : near (after_trips x k) (i + 1) (j + 1) ↔ promoted (start x) (i + 1) (j + 1) := by
          have hin : ∀ a b, promoted (start x) a b → 1 ≤ a ∧ a ≤ 510 ∧ 1 ≤ b ∧ b ≤ 510 := fun a b h => (promo_weak h).1
          rw [promoted_iff]
          unfold near
          rw [hb _ _ (by omega) (by omega), hb _ _ (by omega) (by omega), hb _ _ (by omega) (by omega), hb _ _ (by omega) (by omega),
            hb _ _ (by omega) (by omega), hb _ _ (by omega) (by omega), hb _ _ (by omega) (by omega), hb _ _ (by omega) (by omega)]
          simp only [Nat.add_sub_cancel]
          have d1 : promoted (start x) i j → 510 * (i - 1) + (j - 1) < k := fun h => by have := hin _ _ h; omega
          have d2 : promoted (start x) i (j + 1) → 510 * (i - 1) + j < k := fun h => by have := hin _ _ h; omega
          have d3 : promoted (start x) i (j + 2) → 510 * (i - 1) + (j + 1) < k := fun h => by have := hin _ _ h; omega
          have d4 : promoted (start x) (i + 1) j → 510 * i + (j - 1) < k := fun h => by have := hin _ _ h; omega
          have g1 : ¬ (510 * i + (j + 1) < k) := by omega
          have g2 : ¬ (510 * (i + 1) + (j - 1) < k) := by omega
          have g3 : ¬ (510 * (i + 1) + j < k) := by omega
          have g4 : ¬ (510 * (i + 1) + (j + 1) < k) := by omega
          have i1 := hin i j
          have i2 := hin i (j + 1)
          have i3 := hin i (j + 2)
          have i4 := hin (i + 1) j
          constructor
          · rintro (h | h | h | h | h | h | h | h) <;> rcases h with h | h <;> first | exact absurd h.1.2 (by omega) | exact ⟨hw, by simp only [h, true_or, or_true]⟩ | exact ⟨hw, by simp only [h.2, true_or, or_true]⟩
          · rintro ⟨_, h | h | h | h | h⟩
            · rcases h with h | h | h | h | h | h | h | h <;> simp only [h, true_or, or_true]
            · exact Or.inl (Or.inr ⟨⟨i1 h, d1 h⟩, h⟩)
            · exact Or.inr (Or.inl (Or.inr ⟨⟨i2 h, d2 h⟩, h⟩))
            · exact Or.inr (Or.inr (Or.inl (Or.inr ⟨⟨i3 h, d3 h⟩, h⟩)))
            · exact Or.inr (Or.inr (Or.inr (Or.inl (Or.inr ⟨⟨i4 h, d4 h⟩, h⟩))))
        unfold final
        rw [if_pos hm, if_pos hw]
        by_cases h : promoted (start x) (i + 1) (j + 1)
        · rw [if_pos h, if_pos (hn.2 h)]
        · rw [if_neg h, if_neg (fun h' => h (hn.1 h'))]
      · unfold final
        rw [if_neg hm, if_neg (fun h => hm h.2)]
    · rw [if_neg hp]
      refine ⟨fun h => (ih a b ha hb').1 ⟨h.1, ?_⟩, fun h => (ih a b ha hb').2 fun h' => h ⟨h'.1, by omega⟩⟩
      by_contra hc
      exact hp (by omega)

/-- The loop's image. -/
theorem after_all (x : FVec Ideal S512x512 .f32) (a b : Nat) (ha : a < 512) (hb : b < 512) :
    px (after_trips x 260100) a b = final (start x) a b := by
  by_cases h : 1 ≤ a ∧ a ≤ 510 ∧ 1 ≤ b ∧ b ≤ 510
  · exact (after_px x 260100 le_rfl a b ha hb).1 ⟨h, by omega⟩
  · rw [(after_px x 260100 le_rfl a b ha hb).2 (fun h' => h h'.1)]
    unfold final
    rw [if_neg (fun h' => h h'.1)]

end Cert.ReferenceIdeal.Scan
-- ==== Proof.Levels.lean ====
/- The two levels that sort the pixels: what they are on each side, and how a pixel is sorted by them. -/
module

public import proofs.«01_k».proof.Proof.RefScan
public import proofs.«01_k».proof.Proof.Rows

@[expose] public section

set_option maxRecDepth 16384

noncomputable section

namespace Cert.Levels

open Cert.ReferenceIdeal Cert.ReferenceIdeal.Gen Cert.ReferenceIdeal.Scan
open Idealize.ShloMosaic

/-! ### The constants -/

/-- The factor of the lower level is between zero and one. -/
theorem factor_low : ∃ r : ℝ, 0 < r ∧ r < 1 ∧ Ideal.ofBits .f32 0x3D4CCCCD#32 = (r : EReal) := by
  refine ⟨_, ?_, ?_, by simp only [Ideal.ofBits, Ideal.ieee]; simp [-EReal.coe_mul]; rfl⟩ <;> norm_num

/-- The factor of the upper level is between zero and one. -/
theorem factor_high : ∃ r : ℝ, 0 < r ∧ r < 1 ∧ Ideal.ofBits .f32 0x3E19999A#32 = (r : EReal) := by
  refine ⟨_, ?_, ?_, by simp only [Ideal.ofBits, Ideal.ieee]; simp [-EReal.coe_mul]; rfl⟩ <;> norm_num

/-! ### The largest pixel -/

/-- The largest pixel. -/
def top (x : FVec Ideal S512x512 .f32) : EReal :=
  Host.reduce (α := Ideal .f32) FloatOps.maximumf x (constant (F := Ideal) S_ .f32 0xFF800000#32) reducesTo_S512x512_S_d0_1 h_S_ ix0

/-- No pixel is above the largest. -/
theorem le_top (x : FVec Ideal S512x512 .f32) (i : S512x512.Idx) : x i ≤ top x := by
  unfold top
  rw [show (FloatOps.maximumf : Ideal .f32 → Ideal .f32 → Ideal .f32) = max from rfl, Host.reduce_eq_fold]
  exact (Finset.le_fold_max _).2 (Or.inr ⟨i, Finset.mem_filter.2 ⟨Finset.mem_univ _, funext fun a => a.elim0⟩, le_rfl⟩)

/-- The largest pixel is below every bound on all pixels. -/
theorem top_le (x : FVec Ideal S512x512 .f32) (b : EReal) (h : ∀ i, x i ≤ b) : top x ≤ b := by
  unfold top
  rw [show (FloatOps.maximumf : Ideal .f32 → Ideal .f32 → Ideal .f32) = max from rfl, Host.reduce_eq_fold]
  refine (Finset.fold_max_le _).2 ⟨?_, fun i _ => h i⟩
  have : constant (F := Ideal) S_ .f32 0xFF800000#32 (Shape.Idx.first h_S_) = ⊥ := by
    show Ideal.ofBits .f32 0xFF800000#32 = ⊥
    simp [Ideal.ofBits, Ideal.ieee]
  rw [this]
  exact bot_le

/-- The kernel's upper level is the same multiple of the largest pixel. -/
theorem kernel_high (x : FVec Ideal S512x512 .f32) :
    Cert.KernelIdeal.Gen.k0_pay16 (F := Ideal) x = top x * Ideal.ofBits .f32 0x3E19999A#32 := by
  unfold Cert.KernelIdeal.Gen.k0_pay16 Cert.KernelIdeal.Gen.k0_pay15
  pointwise
  refine congrArg (· * Ideal.ofBits .f32 0x3E19999A#32) (le_antisymm ?_ ?_)
  · refine (Finset.fold_max_le _).2 ⟨?_, fun i _ => le_top x _⟩
    have : Ideal.ofBits .f32 0xFF800000#32 = ⊥ := by
      simp [Ideal.ofBits, Ideal.ieee]
    rw [this]
    exact bot_le
  · refine top_le x _ fun i => (Finset.le_fold_max _).2 (Or.inr ⟨(i 0, i 1), Finset.mem_univ _, ?_⟩)
    exact le_of_eq (congrArg x (eq_ix2 i))

/-- The upper level. -/
def hi (x : FVec Ideal S512x512 .f32) : EReal := top x * Ideal.ofBits .f32 0x3E19999A#32
/-- The lower level. -/
def lo (x : FVec Ideal S512x512 .f32) : EReal := hi x * Ideal.ofBits .f32 0x3D4CCCCD#32

/-- A level that is at most a pixel, itself at most the largest, is not below its own multiple by a factor under one. -/
theorem level_le (M p H : EReal) (e : H = M * Ideal.ofBits .f32 0x3E19999A#32) (hp : p ≤ M) (h : H ≤ p) :
    H * Ideal.ofBits .f32 0x3D4CCCCD#32 ≤ H := by
  obtain ⟨a, a0, a1, ea⟩ := factor_high
  obtain ⟨b, b0, b1, eb⟩ := factor_low
  have hM := h.trans hp
  rw [ea] at e
  rw [eb, e]
  rw [e] at hM
  induction M using EReal.rec with
  | bot => rw [EReal.bot_mul_coe_of_pos a0, EReal.bot_mul_coe_of_pos b0]
  | top => rw [EReal.top_mul_coe_of_pos a0]; exact _root_.le_top
  | coe m =>
    norm_cast at hM ⊢
    have : 0 ≤ m := by nlinarith
    have : 0 ≤ m * a := by positivity
    nlinarith

/-- If some pixel reaches the upper level, the lower level is not above it. -/
theorem lo_le_hi (x : FVec Ideal S512x512 .f32) (i : S512x512.Idx) (h : hi x ≤ x i) : lo x ≤ hi x := by
  unfold lo
  exact level_le (top x) (x i) (hi x) (by unfold hi; rfl) (le_top x i) h

/-! ### How the reference sorts -/

/-- A number spread over an image. -/
theorem spread {α : Type} (v : S_.Idx → α) (i : S512x512.Idx) : broadcastInDim S512x512 ![] bcast_S_S512x512 v i = v ix0 :=
  congrArg v (funext fun a => a.elim0)

/-- A multiple of a number. -/
theorem scaled (r : FVec Ideal S_ .f32) (b : BitVec 32) : mulf r (constant S_ .f32 b) ix0 = r ix0 * Ideal.ofBits .f32 b := rfl

/-- The pixels sorted by two levels. -/
def sorted (x : FVec Ideal S512x512 .f32) (l h : FVec Ideal S_ .f32) : FVec Ideal S512x512 .f32 :=
  select (cmpf .olt x (broadcastInDim S512x512 ![] bcast_S_S512x512 l))
    (broadcastInDim S512x512 ![] bcast_S_S512x512 (constant S_ .f32 0x00000000#32))
    (select (andi (cmpf .ole x (broadcastInDim S512x512 ![] bcast_S_S512x512 h)) (cmpf .oge x (broadcastInDim S512x512 ![] bcast_S_S512x512 l)))
      (broadcastInDim S512x512 ![] bcast_S_S512x512 (constant S_ .f32 0x41C80000#32))
      (select (cmpf .oge x (broadcastInDim S512x512 ![] bcast_S_S512x512 h))
        (broadcastInDim S512x512 ![] bcast_S_S512x512 (constant S_ .f32 0x437F0000#32)) x))

/-- A sorted pixel: zero below the lower level, 25 from there to the upper level, 255 above. -/
theorem sorted_eq (x : FVec Ideal S512x512 .f32) (l h : FVec Ideal S_ .f32) (i : S512x512.Idx) :
    sorted x l h i = if x i < l ix0 then 0 else if x i ≤ h ix0 then mid else big := by
  unfold sorted
  pointwise
  show (if x i < l ix0 then 0 else Scalar.select (IntOp.andi (BitVec.ofBool (decide (x i ≤ h ix0))) (BitVec.ofBool (decide (l ix0 ≤ x i)))) mid
    (if h ix0 ≤ x i then big else x i)) = _
  by_cases h1 : x i < l ix0
  · rw [if_pos h1, if_pos h1]
  · rw [if_neg h1, if_neg h1]
    have h1 := not_lt.1 h1
    by_cases h2 : x i ≤ h ix0
    · rw [if_pos h2]
      simp [h1, h2, IntOp.andi, Scalar.select]
    · have h3 := (not_le.1 h2).le
      simp [h1, h2, h3, IntOp.andi, Scalar.select]

/-- The reference's first image: zero below the lower level, 25 from there to the upper level, 255 above. -/
theorem start_eq (x : FVec Ideal S512x512 .f32) (i : S512x512.Idx) :
    start x i = if x i < lo x then 0 else if x i ≤ hi x then mid else big := by
  have e1 : high x ix0 = hi x := scaled _ _
  have e2 : low x ix0 = lo x := (scaled (high x) _).trans (congrArg (· * Ideal.ofBits .f32 0x3D4CCCCD#32) e1)
  rw [← e1, ← e2]
  exact sorted_eq x (low x) (high x) i

end Cert.Levels
-- ==== Proof.Tables.lean ====
/- The two tables of the kernel against the two conditions of the reference. -/
module

public import proofs.«01_k».proof.Proof.KernelNear
public import proofs.«01_k».proof.Proof.Levels

@[expose] public section

set_option maxRecDepth 16384

noncomputable section

namespace Cert.Hyst

open Cert.KernelIdeal Cert.KernelIdeal.Gen Cert.KernelIdeal.Hyst
open Cert.ReferenceIdeal.Scan (px big mid near weakAt promoted final start big_ne_mid big_ne_zero mid_eq)
open Cert.Levels
open Idealize.ShloMosaic
open scoped Classical

/-- A condition as a one-bit word. -/
def yes (p : Prop) : BitVec 1 := if p then 1#1 else 0#1

/-- A condition decided is its one-bit word. -/
theorem ofBool_yes (p : Prop) [Decidable p] : BitVec.ofBool (decide p) = yes p := by
  unfold yes
  by_cases h : p
  · rw [decide_eq_true h, if_pos h]; rfl
  · rw [decide_eq_false h, if_neg h]; rfl

/-- A one-bit word that chooses by a condition. -/
theorem if_yes (p : Prop) [Decidable p] : (if p then 1#1 else 0#1) = yes p := by
  unfold yes
  by_cases h : p
  · rw [if_pos h, if_pos h]
  · rw [if_neg h, if_neg h]

/-- Both of two one-bit conditions. -/
theorem andi_yes (p q : Prop) : IntOp.andi (yes p) (yes q) = yes (p ∧ q) := by
  unfold yes
  by_cases hp : p <;> by_cases hq : q <;> simp only [hp, hq, and_self, and_true, true_and, and_false, false_and, if_true, if_false] <;> rfl

/-- A one-bit condition holds as the condition does. -/
theorem yes_one (p : Prop) : yes p = 1#1 ↔ p := by
  unfold yes
  by_cases hp : p
  · rw [if_pos hp]; exact iff_of_true rfl hp
  · rw [if_neg hp]; exact iff_of_false (by decide) hp

/-- A choice by a one-bit condition. -/
theorem select_yes {α : Type} (p : Prop) (a b : α) : Scalar.select (yes p) a b = if p then a else b := by
  unfold yes
  by_cases hp : p
  · rw [if_pos hp, if_pos hp]; rfl
  · rw [if_neg hp, if_neg hp]; rfl

/-- The one-bit word of an inner row or column number. -/
theorem inner_yes (n : Nat) (hn : n < 512) :
    IntOp.andi (IntOp.cmpi .sgt (BitVec.ofNat 32 n) 0#32) (IntOp.cmpi .slt (BitVec.ofNat 32 n) 511#32) = yes (1 ≤ n ∧ n ≤ 510) := by
  have h1 : IntOp.cmpi .sgt (BitVec.ofNat 32 n) 0#32 = yes (1 ≤ n) :=
    ((lt_word 0 n (by decide) (by omega)).trans (if_yes _)).trans (congrArg yes (propext Nat.succ_le_iff.symm))
  have h2 : IntOp.cmpi .slt (BitVec.ofNat 32 n) 511#32 = yes (n ≤ 510) :=
    ((lt_word n 511 (by omega) (by decide)).trans (if_yes _)).trans (congrArg yes (propext (by omega)))
  rw [h1, h2, andi_yes]

/-- The weak flags for a given upper level. -/
def weakOf (x : FVec Ideal S512x512 .f32) (h : Ideal .f32) : IVec S512x512 1 :=
  andi (cmpf .oge x (broadcast S512x512 (Scalar.mulf h (Scalar.ofBits .f32 0x3D4CCCCD#32)))) (cmpf .ole x (broadcast S512x512 h))

/-- The strong flags for a given upper level, as floats. -/
def strongOf (x : FVec Ideal S512x512 .f32) (h : Ideal .f32) : FVec Ideal S512x512 .f32 :=
  sitofp .f32 (extui 32 (cmpf .ogt x (broadcast S512x512 h)) natLt_1_32)

/-- A weak flag. -/
theorem weakOf_at (x : FVec Ideal S512x512 .f32) (h : EReal) (i j : Fin 512) :
    weakOf x h (ix2 i j) = yes (h * Ideal.ofBits .f32 0x3D4CCCCD#32 ≤ x (ix2 i j) ∧ x (ix2 i j) ≤ h) := by
  have e : weakOf x h (ix2 i j) = IntOp.andi
      (BitVec.ofBool (decide (h * Ideal.ofBits .f32 0x3D4CCCCD#32 ≤ x (ix2 i j))))
      (BitVec.ofBool (decide (x (ix2 i j) ≤ h))) := by
    unfold weakOf
    pointwise
  rw [e, ofBool_yes, ofBool_yes, andi_yes]

/-- A strong flag. -/
theorem strongOf_at (x : FVec Ideal S512x512 .f32) (h : EReal) (i j : Fin 512) :
    strongOf x h (ix2 i j) = ((truth (h < x (ix2 i j)) : ℝ) : EReal) := by
  have e : strongOf x h (ix2 i j) = FloatOps.sitofp (F := Ideal) .f32 (BitVec.setWidth 32 (BitVec.ofBool (decide (h < x (ix2 i j))))) := by
    unfold strongOf
    pointwise
  rw [e, flag_float, ofBool_yes, yes_one]

/-- The kernel reads the image as it is. -/
theorem read_eq (x : FVec Ideal S512x512 .f32) : k0_pay15 (F := Ideal) x = x := by
  funext i
  rw [eq_ix2 i]
  unfold k0_pay15
  pointwise

/-- The kernel's weak flags are those of its upper level. -/
theorem weak_of (x : FVec Ideal S512x512 .f32) : k0_pay17 (F := Ideal) x = weakOf x (k0_pay16 (F := Ideal) x) := by
  delta k0_pay17 weakOf
  rw [read_eq]

/-- The kernel's strong flags are those of its upper level. -/
theorem strong_of (x : FVec Ideal S512x512 .f32) : k0_pay21 (F := Ideal) x = strongOf x (k0_pay16 (F := Ideal) x) := by
  delta k0_pay21 strongOf
  rw [read_eq]

/-- The kernel's upper level is the reference's. -/
theorem upper_eq (x : FVec Ideal S512x512 .f32) : k0_pay16 (F := Ideal) x = hi x := by
  delta hi
  exact kernel_high x

/-- The kernel's weak flag. -/
theorem weak_flag (x : FVec Ideal S512x512 .f32) (i j : Fin 512) :
    k0_pay17 (F := Ideal) x (ix2 i j) = yes (lo x ≤ x (ix2 i j) ∧ x (ix2 i j) ≤ hi x) := by
  delta lo
  exact (congrFun (weak_of x) _).trans ((congrArg (fun h => weakOf x h (ix2 i j)) (upper_eq x)).trans (weakOf_at x (hi x) i j))

/-- The kernel's strong flag, as a float. -/
theorem strong_flag (x : FVec Ideal S512x512 .f32) (i j : Fin 512) :
    k0_pay21 (F := Ideal) x (ix2 i j) = ((truth (hi x < x (ix2 i j)) : ℝ) : EReal) :=
  (congrFun (strong_of x) _).trans ((congrArg (fun h => strongOf x h (ix2 i j)) (upper_eq x)).trans (strongOf_at x (hi x) i j))

/-- A pixel with its two coordinates as numbers. -/
theorem px_at (y : FVec Ideal S512x512 .f32) (i j : Fin 512) : px y i.val j.val = y (ix2 i j) := by
  unfold px
  rw [show Fin.ofNat 512 i.val = i from Fin.ext (Nat.mod_eq_of_lt i.isLt), show Fin.ofNat 512 j.val = j from Fin.ext (Nat.mod_eq_of_lt j.isLt)]

/-- The weak value is not zero. -/
theorem mid_ne_zero : mid ≠ 0 := by
  rw [mid_eq]
  norm_num

/-- A sorted pixel is weak between the levels. -/
theorem start_mid (x : FVec Ideal S512x512 .f32) (i : S512x512.Idx) : start x i = mid ↔ lo x ≤ x i ∧ x i ≤ hi x := by
  rw [start_eq]
  by_cases h1 : x i < lo x
  · rw [if_pos h1]
    exact iff_of_false (fun e => absurd e.symm mid_ne_zero) fun a => absurd a.1 (not_le.mpr h1)
  · rw [if_neg h1]
    by_cases h2 : x i ≤ hi x
    · rw [if_pos h2]; exact iff_of_true rfl ⟨not_lt.mp h1, h2⟩
    · rw [if_neg h2]; exact iff_of_false big_ne_mid fun a => h2 a.2

/-- A sorted pixel is strong above the upper level. -/
theorem start_big (x : FVec Ideal S512x512 .f32) (i : S512x512.Idx) : start x i = big ↔ hi x < x i := by
  rw [start_eq]
  by_cases h1 : x i < lo x
  · rw [if_pos h1]
    exact iff_of_false (fun e => absurd e.symm big_ne_zero) fun a => absurd (lt_of_lt_of_le h1 (lo_le_hi x i a.le)) (not_lt.mpr a.le)
  · rw [if_neg h1]
    by_cases h2 : x i ≤ hi x
    · rw [if_pos h2]; exact iff_of_false (fun e => big_ne_mid e.symm) (not_lt.mpr h2)
    · rw [if_neg h2]; exact iff_of_true rfl (not_le.mp h2)

/-- The first packed image: the weak inner pixels. -/
theorem weak_float (x : FVec Ideal S512x512 .f32) (i j : Fin 512) :
    k0_pay20 (F := Ideal) x (ix2 i j) = ((truth (weakAt (start x) i j) : ℝ) : EReal) := by
  have e : k0_pay20 (F := Ideal) x (ix2 i j) = FloatOps.sitofp (F := Ideal) .f32 (BitVec.setWidth 32 (IntOp.andi
      (IntOp.andi (k0_pay17 (F := Ideal) x (ix2 i j))
        (IntOp.andi (IntOp.cmpi .sgt (BitVec.ofNat 32 j.val) 0#32) (IntOp.cmpi .slt (BitVec.ofNat 32 j.val) 511#32)))
        (IntOp.andi (IntOp.cmpi .sgt (BitVec.ofNat 32 i.val) 0#32) (IntOp.cmpi .slt (BitVec.ofNat 32 i.val) 511#32)))) := by
    unfold k0_pay20 k0_pay18 k0_pay19
    generalize k0_pay17 (F := Ideal) x = w
    pointwise
  rw [e, weak_flag, inner_yes _ i.isLt, inner_yes _ j.isLt, andi_yes, andi_yes, flag_float, yes_one]
  refine congrArg (fun p => ((truth p : ℝ) : EReal)) (propext ?_)
  unfold weakAt
  rw [px_at, start_mid]
  exact ⟨fun a => ⟨⟨a.2.1, a.2.2, a.1.2.1, a.1.2.2⟩, a.1.1⟩, fun a => ⟨⟨a.2, a.1.2.2.1, a.1.2.2.2⟩, a.1.1, a.1.2.1⟩⟩

/-- The second packed image: the strong pixels. -/
theorem strong_float (x : FVec Ideal S512x512 .f32) (i j : Fin 512) :
    k0_pay21 (F := Ideal) x (ix2 i j) = ((truth (px (start x) i j = big) : ℝ) : EReal) := by
  rw [strong_flag, px_at, start_big]

/-- The first table holds the weak inner pixels. -/
theorem weak_bit (x : FVec Ideal S512x512 .f32) (i n : Nat) (hi : i < 512) (hn : n < 512) :
    tabBit (weakTab (F := Ideal) x) i n ↔ weakAt (start x) i n := by
  have e : weakTab (F := Ideal) x (ix2 (Fin.ofNat 16 (n / 32)) (Fin.ofNat 512 i))
      = k0_pay30 (k0_pay20 (F := Ideal) x) weightLo maskHi powHi 0#32 (ix2 (Fin.ofNat 512 i) (Fin.ofNat 16 (n / 32))) := by
    unfold weakTab k0_pay32
    generalize k0_pay30 (k0_pay20 (F := Ideal) x) weightLo maskHi powHi 0#32 = S
    pointwise
  unfold tabBit
  rw [and_iff_right hn, e, packed_bit (k0_pay20 (F := Ideal) x) (weakAt (start x)) (weak_float x) _ _ _ (Nat.mod_lt _ (by decide)),
    show (Fin.ofNat 512 i).val = i from Nat.mod_eq_of_lt hi, show (Fin.ofNat 16 (n / 32)).val = n / 32 from Nat.mod_eq_of_lt (by omega),
    Nat.div_add_mod]

/-- The second table holds, at the inner pixels, whether a neighbour is strong. -/
theorem near_bit (x : FVec Ideal S512x512 .f32) (i n : Nat) (h1 : 1 ≤ i) (h2 : i ≤ 510) (h3 : 1 ≤ n) (h4 : n ≤ 510) :
    tabBit (nearTab (F := Ideal) x) i n ↔ near (start x) i n := by
  have e : nearTab (F := Ideal) x (ix2 (Fin.ofNat 16 (n / 32)) (Fin.ofNat 512 i))
      = around (k0_pay30 (k0_pay21 (F := Ideal) x) weightLo maskHi powHi 0#32) (ix2 (Fin.ofNat 512 i) (Fin.ofNat 16 (n / 32))) := by
    unfold nearTab k0_pay33
    rw [near_around]
    generalize around (k0_pay30 (k0_pay21 (F := Ideal) x) weightLo maskHi powHi 0#32) = S
    pointwise
  unfold tabBit
  rw [and_iff_right (show n < 512 by omega), e]
  refine around_bit _ (fun i n => px (start x) i n = big) (fun a b ha hb => ?_) i n h1 h2 h3 h4
  unfold bitsOf rowN
  rw [packed_bit (k0_pay21 (F := Ideal) x) (fun i n => px (start x) i n = big) (strong_float x) _ _ _ (Nat.mod_lt _ (by decide)),
    show (Fin.ofNat 512 a).val = a from Nat.mod_eq_of_lt ha, show (Fin.ofNat 16 (b / 32)).val = b / 32 from Nat.mod_eq_of_lt (by omega),
    Nat.div_add_mod]

/-- The scan over the kernel's tables promotes the pixels the reference promotes. -/
theorem promo_eq (x : FVec Ideal S512x512 .f32) (i : Nat) (hi : i ≤ 512) : ∀ j, j ≤ 512 →
    (promo (tabBit (weakTab (F := Ideal) x)) (tabBit (nearTab (F := Ideal) x)) i j ↔ promo (weakAt (start x)) (near (start x)) i j) := by
  induction i with
  | zero => intro j _; exact Iff.rfl
  | succ i ih =>
    intro j hj
    rcases Nat.lt_or_ge j 512 with h | h
    · refine rowP_congr 512 (fun j hj => weak_bit x i j (by omega) hj) (fun j hj hw => ?_) (ih (by omega)) j h
      have hw' := (weak_bit x i j (by omega) hj).mp hw
      exact near_bit x i j hw'.1.1 hw'.1.2.1 hw'.1.2.2.1 hw'.1.2.2.2
    · exact iff_of_false (fun a => absurd (promo_weak a).1 (by omega)) fun a => absurd (promo_weak a).1.2.2.2 (by omega)

end Cert.Hyst
-- ==== Proof.KernelImage.lean ====
/- Reading the promoted words back into an image. -/
module

public import proofs.«01_k».proof.Proof.Tables

@[expose] public section

set_option maxRecDepth 16384

noncomputable section

namespace Cert.Hyst

open Cert.KernelIdeal Cert.KernelIdeal.Gen Cert.KernelIdeal.Hyst
open Cert.ReferenceIdeal.Scan (px big mid near weakAt promoted final start big_ne_mid big_ne_zero mid_eq)
open Cert.Levels
open Idealize.ShloMosaic
open scoped Classical

/-- One byte of a word, from bit `s` up. -/
def byteW (v s : BitVec 32) : BitVec 32 := IntOp.andi (IntOp.shrui .vector v s) 255#32

/-- A byte's bit is the word's bit. -/
theorem byte_bit (v : BitVec 32) (q t : Nat) (hq : q < 4) (ht : t < 8) :
    (byteW v (BitVec.ofNat 32 (8 * q))).getLsbD t = v.getLsbD (8 * q + t) := by
  have hs : (BitVec.ofNat 32 (8 * q)).toNat = 8 * q := by rw [BitVec.toNat_ofNat]; omega
  have e : IntOp.shrui .vector v (BitVec.ofNat 32 (8 * q)) = v >>> (8 * q) := by
    show (if (BitVec.ofNat 32 (8 * q)).toNat < 32 then v >>> BitVec.ofNat 32 (8 * q) else _) = _
    rw [hs, if_pos (by omega), BitVec.ushiftRight_eq', hs]
  unfold byteW
  rw [e]
  show ((v >>> (8 * q)) &&& 255#32).getLsbD t = _
  rw [BitVec.getLsbD_and, BitVec.getLsbD_ushiftRight]
  have h255 : ∀ t : Fin 8, (255#32).getLsbD t = true := by decide
  rw [h255 ⟨t, ht⟩, Bool.and_true]

/-- A byte is below 256. -/
theorem byte_lt (v s : BitVec 32) : (byteW v s).toNat < 256 := by
  show (IntOp.shrui .vector v s &&& 255#32).toNat < 256
  rw [BitVec.toNat_and]
  exact lt_of_le_of_lt Nat.and_le_right (by decide)

/-- A byte as a float. -/
theorem byte_float (v s : BitVec 32) (φ : FTy) : FloatOps.sitofp (F := Ideal) φ (byteW v s) = (((byteW v s).toNat : ℝ) : EReal) := by
  have h := byte_lt v s
  have := float_word (φ := φ) (byteW v s).toNat (by omega)
  rwa [BitVec.ofNat_toNat, BitVec.setWidth_eq] at this

/-- The indicator of a column's block. -/
theorem block_flag (k : Fin 16) (j : Fin 512) : k0_pay1706 (F := Ideal) k0_pay1705 1#32 0#32 (ix2 k j) = ((truth (k.val = j.val / 32) : ℝ) : EReal) := by
  unfold k0_pay1706 k0_pay1705
  pointwise
  refine (congrArg (fun t => FloatOps.sitofp (F := Ideal) .bf16 (Scalar.select (IntOp.cmpi .eq (BitVec.ofNat 32 k.val) t) 1#32 0#32))
    (div_word j.val 32 (by omega) (by decide) (by decide))).trans ?_
  rw [eq_word _ _ (by omega) (by omega), if_yes, select_yes]
  unfold truth
  by_cases h : k.val = j.val / 32
  · rw [if_pos h, if_pos h]; exact float_word 1 (by decide)
  · rw [if_neg h, if_neg h]; exact float_word 0 (by decide)

/-- The sum over the blocks keeps the byte of the column's block. -/
theorem byte_sum (P : IVec S512x16 32) (s : BitVec 32) (i j : Fin 512) :
    ∑ k : Fin 16, FloatOps.sitofp (F := Ideal) .f32 (byteW (P (ix2 i k)) s) * k0_pay1706 (F := Ideal) k0_pay1705 1#32 0#32 (ix2 k j)
      = (((byteW (P (ix2 i ⟨j.val / 32, by omega⟩)) s).toNat : ℝ) : EReal) := by
  have e : ∀ k : Fin 16, FloatOps.sitofp (F := Ideal) .f32 (byteW (P (ix2 i k)) s) * k0_pay1706 (F := Ideal) k0_pay1705 1#32 0#32 (ix2 k j)
      = ((((byteW (P (ix2 i k)) s).toNat * truth (k.val = j.val / 32) : Nat) : ℝ) : EReal) := fun k => by
    rw [byte_float, block_flag, mul_float]
  rw [Finset.sum_congr rfl fun k _ => e k, sum_float]
  refine congrArg (fun n : Nat => ((n : ℝ) : EReal)) ?_
  rw [Finset.sum_eq_single (⟨j.val / 32, by omega⟩ : Fin 16)]
  · rw [truth, if_pos rfl, Nat.mul_one]
  · intro k _ hk
    rw [truth, if_neg (fun a => hk (Fin.ext a)), Nat.mul_zero]
  · exact fun h => absurd (Finset.mem_univ _) h

/-- The lowest byte of the column's word. -/
theorem byte0 (P : IVec S512x16 32) (i j : Fin 512) : k0_pay1707 (F := Ideal) P k0_pay1705 1#32 0#32 (ix2 i j)
    = (((byteW (P (ix2 i ⟨j.val / 32, by omega⟩)) 0#32).toNat : ℝ) : EReal) := by
  refine Eq.trans ?_ (byte_sum P 0#32 i j)
  unfold k0_pay1707
  generalize k0_pay1706 (F := Ideal) k0_pay1705 1#32 0#32 = D
  unfold byteW
  pointwise

/-- The second byte of the column's word. -/
theorem byte1 (P : IVec S512x16 32) (i j : Fin 512) : k0_pay1708 (F := Ideal) P k0_pay1705 1#32 0#32 (ix2 i j)
    = (((byteW (P (ix2 i ⟨j.val / 32, by omega⟩)) 8#32).toNat : ℝ) : EReal) := by
  refine Eq.trans ?_ (byte_sum P 8#32 i j)
  unfold k0_pay1708
  generalize k0_pay1706 (F := Ideal) k0_pay1705 1#32 0#32 = D
  unfold byteW
  pointwise

/-- The third byte of the column's word. -/
theorem byte2 (P : IVec S512x16 32) (i j : Fin 512) : k0_pay1709 (F := Ideal) P k0_pay1705 1#32 0#32 (ix2 i j)
    = (((byteW (P (ix2 i ⟨j.val / 32, by omega⟩)) 16#32).toNat : ℝ) : EReal) := by
  refine Eq.trans ?_ (byte_sum P 16#32 i j)
  unfold k0_pay1709
  generalize k0_pay1706 (F := Ideal) k0_pay1705 1#32 0#32 = D
  unfold byteW
  pointwise

/-- The highest byte of the column's word. -/
theorem byte3 (P : IVec S512x16 32) (i j : Fin 512) : k0_pay1710 (F := Ideal) P k0_pay1705 1#32 0#32 (ix2 i j)
    = (((byteW (P (ix2 i ⟨j.val / 32, by omega⟩)) 24#32).toNat : ℝ) : EReal) := by
  refine Eq.trans ?_ (byte_sum P 24#32 i j)
  unfold k0_pay1710
  generalize k0_pay1706 (F := Ideal) k0_pay1705 1#32 0#32 = D
  unfold byteW
  pointwise

/-- The column number of each pixel. -/
def cols : IVec S512x512 32 := iota .tc S512x512 32 [1] iota_S512x512_d1_w32

/-- The place of each column in its word. -/
def places : IVec S512x512 32 :=
  select (andi (xori (k0_pay1713 cols) (broadcastTo S512x512 k0_pay1714 broadcasts_S512x512_S512x512)) (k0_pay1712 cols))
    (addi (k0_pay1711 cols) (broadcast S512x512 (Scalar.select (Scalar.cmpi .eq 32#32 0#32) 1#32 32#32))) (k0_pay1711 cols)

/-- A place divided by eight, rounded down. -/
def eighth (v : IVec S512x512 32) : IVec S512x512 32 :=
  select (andi (cmpi .ne (subi (extui 32 (cmpi .sgt v (broadcast S512x512 0#32)) natLt_1_32)
      (extui 32 (cmpi .slt v (broadcast S512x512 0#32)) natLt_1_32))
      (broadcast S512x512 (Scalar.subi (Scalar.extui (Scalar.cmpi .sgt 8#32 0#32)) (Scalar.extui (Scalar.cmpi .slt 8#32 0#32)))))
      (cmpi .ne (remsi v (broadcast S512x512 8#32)) (broadcast S512x512 0#32)))
    (subi (divsi v (broadcast S512x512 8#32)) (broadcast S512x512 1#32)) (divsi v (broadcast S512x512 8#32))

/-- The choice of a byte by its number. -/
def chosen (q : IVec S512x512 32) (a b c d : FVec Ideal S512x512 .f32) : IVec S512x512 32 :=
  fptosi 32 (select (cmpi .eq q (broadcast S512x512 0#32)) a (select (cmpi .eq q (broadcast S512x512 1#32)) b
    (select (cmpi .eq q (broadcast S512x512 2#32)) c d)))

/-- The kernel's choice is by an eighth of the place. -/
theorem chosen_eq (a b c d : FVec Ideal S512x512 .f32) :
    k0_pay1715 a b c d (Scalar.select (Scalar.cmpi .eq 32#32 0#32) 1#32 32#32) (k0_pay1711 cols) (k0_pay1712 cols)
      (k0_pay1713 cols) k0_pay1714 = chosen (eighth places) a b c d := by
  delta k0_pay1715 chosen eighth places
  exact rfl

/-- The place of a column. -/
theorem places_at (i j : Fin 512) : places (ix2 i j) = BitVec.ofNat 32 (j.val % 32) := by
  unfold places k0_pay1713 k0_pay1712 k0_pay1711 k0_pay1714 cols
  pointwise
  exact mod_word j.val 32 (by omega) (by decide) (by decide)

/-- An eighth of a small number. -/
theorem eighth_at (v : IVec S512x512 32) (i : S512x512.Idx) (n : Nat) (hn : n < 2 ^ 31) (h : v i = BitVec.ofNat 32 n) :
    eighth v i = BitVec.ofNat 32 (n / 8) := by
  have e : eighth v i = Scalar.select (IntOp.andi
        (IntOp.cmpi .ne (IntOp.subi (BitVec.setWidth 32 (IntOp.cmpi .sgt (v i) 0#32))
            (BitVec.setWidth 32 (IntOp.cmpi .slt (v i) 0#32)))
          (Scalar.subi (Scalar.extui (Scalar.cmpi .sgt 8#32 0#32))
            (Scalar.extui (Scalar.cmpi .slt 8#32 0#32))))
        (IntOp.cmpi .ne (IntOp.remsi .vector (v i) 8#32) 0#32))
      (IntOp.subi (IntOp.divsi .vector (v i) 8#32) 1#32)
      (IntOp.divsi .vector (v i) 8#32) := rfl
  rw [e, h]
  exact div_word n 8 hn (by decide) (by decide)

/-- The chosen byte of the column's word. -/
theorem chosen_at (P : IVec S512x16 32) (i j : Fin 512) :
    chosen (eighth places) (k0_pay1707 (F := Ideal) P k0_pay1705 1#32 0#32) (k0_pay1708 (F := Ideal) P k0_pay1705 1#32 0#32)
      (k0_pay1709 (F := Ideal) P k0_pay1705 1#32 0#32) (k0_pay1710 (F := Ideal) P k0_pay1705 1#32 0#32) (ix2 i j)
      = byteW (P (ix2 i ⟨j.val / 32, by omega⟩)) (BitVec.ofNat 32 (8 * (j.val % 32 / 8))) := by
  have e : ∀ (q : IVec S512x512 32) (a b c d : FVec Ideal S512x512 .f32), chosen q a b c d (ix2 i j)
      = Ideal.fptosi 32 (Scalar.select (IntOp.cmpi .eq (q (ix2 i j)) 0#32) (a (ix2 i j)) (Scalar.select (IntOp.cmpi .eq (q (ix2 i j)) 1#32) (b (ix2 i j))
        (Scalar.select (IntOp.cmpi .eq (q (ix2 i j)) 2#32) (c (ix2 i j)) (d (ix2 i j))))) := fun _ _ _ _ _ => rfl
  have w : ∀ v s : BitVec 32, Ideal.fptosi 32 (((byteW v s).toNat : ℝ) : EReal) = byteW v s := fun v s => by
    have h := byte_lt v s
    rw [word_float _ (by omega), BitVec.ofNat_toNat, BitVec.setWidth_eq]
  rw [e, eighth_at places (ix2 i j) (j.val % 32) (by omega) (places_at i j), byte0, byte1, byte2, byte3]
  obtain ⟨q, hq⟩ : ∃ q, q = j.val % 32 / 8 := ⟨_, rfl⟩
  rw [← hq, ← w _ (BitVec.ofNat 32 (8 * q))]
  have : q = 0 ∨ q = 1 ∨ q = 2 ∨ q = 3 := by omega
  rcases this with h | h | h | h <;> rw [h] <;> rfl

/-- One bit of a word, as a condition. -/
theorem bit_flag (v : BitVec 32) (t : Nat) (ht : t < 32) :
    IntOp.cmpi .sgt (IntOp.andi (IntOp.shrui .vector v (BitVec.ofNat 32 t)) 1#32) 0#32 = yes (v.getLsbD t = true) := by
  have hs : (BitVec.ofNat 32 t).toNat = t := by rw [BitVec.toNat_ofNat]; omega
  have e : IntOp.shrui .vector v (BitVec.ofNat 32 t) = v >>> t := by
    show (if (BitVec.ofNat 32 t).toNat < 32 then v >>> BitVec.ofNat 32 t else _) = _
    rw [hs, if_pos ht, BitVec.ushiftRight_eq', hs]
  have e1 : IntOp.andi (v >>> t) 1#32 = BitVec.ofNat 32 (v.getLsbD t).toNat := by
    show v >>> t &&& 1#32 = _
    apply BitVec.eq_of_getLsbD_eq
    intro b hb
    rw [BitVec.getLsbD_and, BitVec.getLsbD_ushiftRight]
    rcases Nat.eq_zero_or_pos b with rfl | h
    · cases hv : v.getLsbD t
      · rfl
      · rfl
    · have h1 : ∀ b : Fin 32, 0 < b.val → (1#32).getLsbD b.val = false := by decide
      have h0 : ∀ b : Fin 32, (0#32).getLsbD b.val = false := by decide
      rw [h1 ⟨b, hb⟩ h, Bool.and_false]
      cases v.getLsbD t
      · exact (h0 ⟨b, hb⟩).symm
      · exact (h1 ⟨b, hb⟩ h).symm
  rw [e, e1]
  cases hv : v.getLsbD t
  · refine Eq.trans ?_ (if_neg (show ¬ (false = true) by decide)).symm
    rfl
  · refine Eq.trans ?_ (if_pos rfl).symm
    rfl

/-- The place of a column in its byte. -/
theorem small_place (i j : Fin 512) :
    Scalar.select (IntOp.andi (IntOp.xori (IntOp.cmpi .slt (k0_pay1716 cols (ix2 i j)) 0#32) (Scalar.cmpi .slt 8#32 0#32))
      (k0_pay1717 cols (ix2 i j))) (IntOp.addi (k0_pay1716 cols (ix2 i j)) 8#32) (k0_pay1716 cols (ix2 i j)) = BitVec.ofNat 32 (j.val % 8) := by
  unfold k0_pay1717 k0_pay1716 cols
  pointwise
  exact mod_word j.val 8 (by omega) (by decide) (by decide)

/-- The strong value where a condition holds, and zero elsewhere. -/
def strongIf (p : Prop) : EReal := if p then big else 0

/-- It is the strong value where the condition holds. -/
theorem strongIf_yes {p : Prop} (h : p) : strongIf p = big := if_pos h

/-- It is zero where the condition fails. -/
theorem strongIf_not {p : Prop} (h : ¬ p) : strongIf p = 0 := if_neg h

/-- The image from the promoted words, for given flags. -/
theorem paint_at (x : FVec Ideal S512x512 .f32) (h : EReal) (wk c r : IVec S512x512 1) (B : IVec S512x512 32) (i j : Fin 512) :
    k0_pay1 (F := Ideal) x h wk c r B (Scalar.select (Scalar.cmpi .eq 8#32 0#32) 1#32 8#32) (k0_pay1716 cols) (k0_pay1717 cols) (ix2 i j) =
      Scalar.select (IntOp.andi (wk (ix2 i j)) (IntOp.andi (r (ix2 i j)) (c (ix2 i j))))
        (strongIf ((B (ix2 i j)).getLsbD (j.val % 8) = true))
        (Scalar.select (wk (ix2 i j)) mid (strongIf (h ≤ x (ix2 i j)))) := by
  have e : k0_pay1 (F := Ideal) x h wk c r B (Scalar.select (Scalar.cmpi .eq 8#32 0#32) 1#32 8#32) (k0_pay1716 cols) (k0_pay1717 cols) (ix2 i j) =
      Scalar.select (IntOp.andi (wk (ix2 i j)) (IntOp.andi (r (ix2 i j)) (c (ix2 i j))))
        (Scalar.select (IntOp.cmpi .sgt (IntOp.andi (IntOp.shrui .vector (B (ix2 i j))
          (Scalar.select (IntOp.andi (IntOp.xori (IntOp.cmpi .slt (k0_pay1716 cols (ix2 i j)) 0#32) (Scalar.cmpi .slt 8#32 0#32))
            (k0_pay1717 cols (ix2 i j))) (IntOp.addi (k0_pay1716 cols (ix2 i j)) 8#32) (k0_pay1716 cols (ix2 i j)))) 1#32) 0#32)
          big (Ideal.ofBits .f32 0x00000000#32))
        (Scalar.select (wk (ix2 i j)) mid (Scalar.select (BitVec.ofBool (decide (h ≤ x (ix2 i j)))) big (Ideal.ofBits .f32 0x00000000#32))) := by
    unfold k0_pay1
    generalize k0_pay1717 cols = u
    generalize k0_pay1716 cols = v
    exact rfl
  rw [e, small_place, bit_flag _ _ (by omega), ofBool_yes, select_yes, select_yes, Ideal.ofBits_zero_f32]
  rfl

/-- The kernel's image, as one painting. -/
theorem image_eq (x : FVec Ideal S512x512 .f32) (P : IVec S512x16 32) (i j : Fin 512) :
    image (F := Ideal) x P (ix2 i j) =
      if weakAt (start x) i j then strongIf ((P (ix2 i ⟨j.val / 32, by omega⟩)).getLsbD (j.val % 32) = true)
      else px (start x) i j := by
  have e : image (F := Ideal) x P (ix2 i j) = k0_pay1 (F := Ideal) (k0_pay15 x) (k0_pay16 (F := Ideal) x) (k0_pay17 (F := Ideal) x) k0_pay18 k0_pay19
      (chosen (eighth places) (k0_pay1707 (F := Ideal) P k0_pay1705 1#32 0#32) (k0_pay1708 (F := Ideal) P k0_pay1705 1#32 0#32)
      (k0_pay1709 (F := Ideal) P k0_pay1705 1#32 0#32) (k0_pay1710 (F := Ideal) P k0_pay1705 1#32 0#32))
      (Scalar.select (Scalar.cmpi .eq 8#32 0#32) 1#32 8#32) (k0_pay1716 cols) (k0_pay1717 cols) (ix2 i j) := by
    rw [← chosen_eq]
    delta image
    exact rfl
  have hr : k0_pay19 (ix2 i j) = yes (1 ≤ i.val ∧ i.val ≤ 510) := by
    refine Eq.trans ?_ (inner_yes i.val i.isLt)
    unfold k0_pay19
    pointwise
  have hc : k0_pay18 (ix2 i j) = yes (1 ≤ j.val ∧ j.val ≤ 510) := by
    refine Eq.trans ?_ (inner_yes j.val j.isLt)
    unfold k0_pay18
    pointwise
  rw [e, paint_at, chosen_at, byte_bit _ _ _ (by omega) (by omega), show 8 * (j.val % 32 / 8) + j.val % 8 = j.val % 32 by omega,
    hr, hc, weak_flag, andi_yes, andi_yes, select_yes, select_yes, upper_eq, read_eq]
  have hw : ((lo x ≤ x (ix2 i j) ∧ x (ix2 i j) ≤ hi x) ∧ (1 ≤ i.val ∧ i.val ≤ 510) ∧ 1 ≤ j.val ∧ j.val ≤ 510) ↔ weakAt (start x) i j := by
    unfold weakAt
    rw [px_at, start_mid]
    exact ⟨fun a => ⟨⟨a.2.1.1, a.2.1.2, a.2.2.1, a.2.2.2⟩, a.1⟩, fun a => ⟨a.2, ⟨a.1.1, a.1.2.1⟩, a.1.2.2.1, a.1.2.2.2⟩⟩
  by_cases h : weakAt (start x) i j
  · rw [if_pos (hw.mpr h), if_pos h]
  · rw [if_neg (fun a => h (hw.mp a)), if_neg h, px_at, start_eq]
    by_cases h1 : x (ix2 i j) < lo x
    · refine (if_neg fun a => absurd a.1 (not_le.mpr h1)).trans ((strongIf_not fun a => ?_).trans (if_pos h1).symm)
      exact absurd (lt_of_lt_of_le h1 (lo_le_hi x _ a)) (not_lt.mpr a)
    · by_cases h2 : x (ix2 i j) ≤ hi x
      · exact (if_pos ⟨not_lt.mp h1, h2⟩).trans ((if_neg h1).trans (if_pos h2)).symm
      · exact (if_neg fun a => h2 a.2).trans ((strongIf_yes (not_le.mp h2).le).trans ((if_neg h1).trans (if_neg h2)).symm)

/-- The kernel's image is the image the reference's scan leaves. -/
theorem out_at (x : FVec Ideal S512x512 .f32) (i j : Fin 512) : out (F := Ideal) x (ix2 i j) = final (start x) i j := by
  delta out
  refine (image_eq x _ i j).trans ?_
  have h : ((joined (colsFrom (promRow (F := Ideal) x) 512)) (ix2 i ⟨j.val / 32, by omega⟩)).getLsbD (j.val % 32) = true
      ↔ promoted (start x) i j := (joined_bits (F := Ideal) x i j).trans (promo_eq x (i.val + 1) (by omega) j.val (by omega))
  unfold final
  rw [show strongIf _ = strongIf _ from congrArg strongIf (propext h)]
  rfl

end Cert.Hyst
-- ==== Proof.Equation.lean ====
/- The kernel's result is the reference's result. -/
module

public import proofs.«01_k».proof.Proof.KernelImage
public import proofs.«01_k».proof.Proof.KernelFrame

@[expose] public section

set_option maxRecDepth 16384

noncomputable section

namespace Cert.Hyst

open Idealize.ShloMosaic Idealize.SL.Sem
open Cert.ReferenceIdeal.Scan (after_all after_trips start final)

/-- The kernel's image is the image after the reference's last trip. -/
theorem out_eq (x : FVec Ideal Cert.KernelIdeal.S512x512 .f32) :
    Cert.KernelIdeal.Hyst.out (F := Ideal) x = after_trips (F := Ideal) x 260100 := by
  funext i
  have h : ∀ a b : Fin 512, Cert.KernelIdeal.Hyst.out (F := Ideal) x (ix2 a b) = after_trips (F := Ideal) x 260100 (ix2 a b) := fun a b =>
    (out_at x a b).trans ((after_all x a.val b.val a.isLt b.isLt).symm.trans (px_at _ a b))
  rw [eq_ix2 i]
  exact h (i 0) (i 1)

/-- From the same argument the two programs leave the same result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Scan.result (F := Ideal) m' c = Cert.KernelIdeal.Hyst.result (F := Ideal) m c := by
  have hi : Cert.ReferenceIdeal.Scan.input (F := Ideal) m' c = Cert.KernelIdeal.Hyst.input (F := Ideal) m c :=
    congrArg (fun a => shapeCast Cert.KernelIdeal.S512x512 a Cert.KernelIdeal.Gen.shapeCasts_S1x1x512x512_S512x512) h
  unfold Cert.ReferenceIdeal.Scan.result Cert.KernelIdeal.Hyst.result
  rw [hi, out_eq]

end Cert.Hyst
-- ==== Proof.lean ====
/- The certificate: the kernel, its idealization and the reference run and leave their argument alone; and from the same
   image the idealized kernel and the reference leave the same result. -/
module

public import proofs.«01_k».proof.Defs
public import proofs.«01_k».proof.Proof.BitsFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three programs run, end with their argument unchanged and every counter at zero; the idealized kernel is the
    kernel's own text; and it computes the reference's result from the same argument. -/
theorem claim : Cert.Claim :=
  ⟨Cert.Kernel.Gen.facts, Cert.KernelIdeal.Gen.facts, Cert.ReferenceIdeal.Gen.facts,
    fun m g _ => Cert.Kernel.Hyst.frames_eq.mpr (fun m g => Cert.KernelIdeal.Hyst.frame_all m g) m g,
    fun m g _ => Cert.KernelIdeal.Hyst.frame_all m g,
    fun m g _ => Cert.ReferenceIdeal.Scan.frame_all m g,
    trivial,
    fun m g m' g' _ h => ⟨fun c => Cert.KernelIdeal.Hyst.result m c,
      Cert.KernelIdeal.Hyst.run_value m g,
      (θ_run _ _ _).mono (fun _ hr c => ⟨(hr c).1.trans (Cert.Hyst.result_eq m m' c (h c)), (hr c).2⟩)
        (Cert.ReferenceIdeal.Scan.run_value m' g')⟩⟩

end Cert.Proof

end
